-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![1024, 1024]⟩ ⟨2, ![2048, 1024]⟩ (Layout.meshBlock [2, 2] ![[1], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.blockN ⟨2, ![1024, 1024]⟩ ⟨2, ![2048, 1024]⟩ (Layout.meshBlock [2, 2] ![[1], []] c) (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)) →
    ∃ (v0 : Buf (Elt Ideal) (((0 : Dev Cert.ReferenceIdeal.nD).tc : Thread Cert.ReferenceIdeal.nD Cert.ReferenceIdeal.τ).loc Cert.ReferenceIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v19) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x1024 : Shape := ⟨2, ![1024, 1024]⟩
abbrev S1024 : Shape := ⟨1, ![1024]⟩
abbrev S2x1024 : Shape := ⟨2, ![2, 1024]⟩
abbrev S512x1024 : Shape := ⟨2, ![512, 1024]⟩
abbrev S3x2x1024 : Shape := ⟨3, ![3, 2, 1024]⟩
abbrev S8 : Shape := ⟨1, ![8]⟩
abbrev S3 : Shape := ⟨1, ![3]⟩
abbrev S_ : Shape := ⟨0, ![]⟩
abbrev S1 : Shape := ⟨1, ![1]⟩
abbrev S128x1024 : Shape := ⟨2, ![128, 1024]⟩
abbrev S128 : Shape := ⟨1, ![128]⟩
abbrev S128x1 : Shape := ⟨2, ![128, 1]⟩
abbrev S1x1024 : Shape := ⟨2, ![1, 1024]⟩
abbrev S1x2x1024 : Shape := ⟨3, ![1, 2, 1024]⟩

abbrev nBuf : Space → Nat
  | .hbm => 4
  | .vmem => 5
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S1024, .f32⟩
  | .hbm, ⟨3, _⟩ => ⟨S2x1024, .f32⟩
  | .local _ .vmem, ⟨0, _⟩ => ⟨S2x1024, .f32⟩
  | .local _ .vmem, ⟨1, _⟩ => ⟨S512x1024, .f32⟩
  | .local _ .vmem, ⟨2, _⟩ => ⟨S512x1024, .f32⟩
  | .local _ .vmem, ⟨3, _⟩ => ⟨S2x1024, .f32⟩
  | .local _ .vmem, ⟨4, _⟩ => ⟨S3x2x1024, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  (ofTc nBuf bufTy 1 15 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_scratch3 : Ref sig .tc := ⟨.vmem, 4, rfl⟩
abbrev cc0_sem0_0 : DmaSem sig := 0
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_7 : BitVec 32 := 2#32
  let v11 : BitVec 32 := Scalar.muli v2 c2_i32_7
  let v12 : BitVec 32 := Scalar.addi c0_i32 v11
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_8 : BitVec 32 := 1#32
  let v13 : BitVec 32 := Scalar.muli v6 c1_i32_8
  let v14 : BitVec 32 := Scalar.addi v12 v13
  v14.toNat
def k0_dev2 (d0 : Dev nD) : Nat :=
  let c0_i32_11 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_10 : BitVec 32 := 2#32
  let v15 : BitVec 32 := Scalar.muli v7 c2_i32_10
  let v16 : BitVec 32 := Scalar.addi c0_i32_11 v15
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_12 : BitVec 32 := 1#32
  let v17 : BitVec 32 := Scalar.muli v5 c1_i32_12
  let v18 : BitVec 32 := Scalar.addi v16 v17
  v18.toNat
def k0_dev3 (d0 : Dev nD) : Nat :=
  let c0_i32_15 : BitVec 32 := 0#32
  let c1_i32_4 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v8 : BitVec 32 := Scalar.subi c1_i32_4 v2
  let c2_i32_14 : BitVec 32 := 2#32
  let v19 : BitVec 32 := Scalar.muli v8 c2_i32_14
  let v20 : BitVec 32 := Scalar.addi c0_i32_15 v19
  let c1_i32_5 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v9 : BitVec 32 := Scalar.subi c1_i32_5 v5
  let c1_i32_16 : BitVec 32 := 1#32
  let v21 : BitVec 32 := Scalar.muli v9 c1_i32_16
  let v22 : BitVec 32 := Scalar.addi v20 v21
  v22.toNat
def k0_off1 (d0 : Dev nD) (c0_i32_17 : BitVec 32) : Fin 2 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c512_i32 : BitVec 32 := 512#32
  let v23 : BitVec 32 := Scalar.muli v2 c512_i32
  let v24 : BitVec 32 := Scalar.addi v23 c0_i32_17
  let c0_i32_21 : BitVec 32 := 0#32
  ![v24.toNat, 0]
def k0_dev4 (d0 : Dev nD) : Nat :=
  let c0_i32_139 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_138 : BitVec 32 := 2#32
  let v210 : BitVec 32 := Scalar.muli v2 c2_i32_138
  let v211 : BitVec 32 := Scalar.addi c0_i32_139 v210
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_140 : BitVec 32 := 1#32
  let v212 : BitVec 32 := Scalar.muli v6 c1_i32_140
  let v213 : BitVec 32 := Scalar.addi v211 v212
  v213.toNat
def k0_dev5 (d0 : Dev nD) : Nat :=
  let c0_i32_147 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_146 : BitVec 32 := 2#32
  let v220 : BitVec 32 := Scalar.muli v7 c2_i32_146
  let v221 : BitVec 32 := Scalar.addi c0_i32_147 v220
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_148 : BitVec 32 := 1#32
  let v222 : BitVec 32 := Scalar.muli v5 c1_i32_148
  let v223 : BitVec 32 := Scalar.addi v221 v222
  v223.toNat
def k0_dev6 (d0 : Dev nD) : Nat :=
  let c0_i32_155 : BitVec 32 := 0#32
  let c1_i32_4 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v8 : BitVec 32 := Scalar.subi c1_i32_4 v2
  let c2_i32_154 : BitVec 32 := 2#32
  let v230 : BitVec 32 := Scalar.muli v8 c2_i32_154
  let v231 : BitVec 32 := Scalar.addi c0_i32_155 v230
  let c1_i32_5 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v9 : BitVec 32 := Scalar.subi c1_i32_5 v5
  let c1_i32_156 : BitVec 32 := 1#32
  let v232 : BitVec 32 := Scalar.muli v9 c1_i32_156
  let v233 : BitVec 32 := Scalar.addi v231 v232
  v233.toNat
abbrev stage0_0 : Fin 1 → Memref sig .tc .vmem S2x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S2048x1024 : Shape := ⟨2, ![2048, 1024]⟩
abbrev S1024 : Shape := ⟨1, ![1024]⟩
abbrev S_ : Shape := ⟨0, ![]⟩
abbrev S2048 : Shape := ⟨1, ![2048]⟩
abbrev S2048x1 : Shape := ⟨2, ![2048, 1]⟩
abbrev S1x1024 : Shape := ⟨2, ![1, 1024]⟩
abbrev S2x1024 : Shape := ⟨2, ![2, 1024]⟩

abbrev nBuf : Space → Nat
  | .hbm => 52
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1024, .f32⟩
  | .hbm, ⟨3, _⟩ => ⟨S_, .f32⟩
  | .hbm, ⟨4, _⟩ => ⟨S2048, .f32⟩
  | .hbm, ⟨5, _⟩ => ⟨S2048x1, .f32⟩
  | .hbm, ⟨6, _⟩ => ⟨S_, .f32⟩
  | .hbm, ⟨7, _⟩ => ⟨S2048x1, .f32⟩
  | .hbm, ⟨8, _⟩ => ⟨S2048x1, .f32⟩
  | .hbm, ⟨9, _⟩ => ⟨S_, .i32⟩
  | .hbm, ⟨10, _⟩ => ⟨S_, .f32⟩
  | .hbm, ⟨11, _⟩ => ⟨S2048, .f32⟩
  | .hbm, ⟨12, _⟩ => ⟨S2048x1, .f32⟩
  | .hbm, ⟨13, _⟩ => ⟨S_, .f32⟩
  | .hbm, ⟨14, _⟩ => ⟨S2048x1, .f32⟩
  | .hbm, ⟨15, _⟩ => ⟨S2048x1, .f32⟩
  | .hbm, ⟨16, _⟩ => ⟨S2048x1024, .f32⟩
  | .hbm, ⟨17, _⟩ => ⟨S2048x1024, .f32⟩
  | .hbm, ⟨18, _⟩ => ⟨S2048x1024, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S2048, .f32⟩
  | .hbm, ⟨24, _⟩ => ⟨S2048x1, .f32⟩
  | .hbm, ⟨25, _⟩ => ⟨S2048x1, .f32⟩
  | .hbm, ⟨26, _⟩ => ⟨S2048x1, .f32⟩
  | .hbm, ⟨27, _⟩ => ⟨S_, .f32⟩
  | .hbm, ⟨28, _⟩ => ⟨S_, .i1⟩
  | .hbm, ⟨29, _⟩ => ⟨S_, .f32⟩
  | .hbm, ⟨30, _⟩ => ⟨S_, .f32⟩
  | .hbm, ⟨31, _⟩ => ⟨S2048x1, .f32⟩
  | .hbm, ⟨32, _⟩ => ⟨S2048x1, .f32⟩
  | .hbm, ⟨33, _⟩ => ⟨S_, .f32⟩
  | .hbm, ⟨34, _⟩ => ⟨S2048x1, .f32⟩
  | .hbm, ⟨35, _⟩ => ⟨S2048x1, .f32⟩
  | .hbm, ⟨36, _⟩ => ⟨S2048x1, .f32⟩
  | .hbm, ⟨37, _⟩ => ⟨S_, .f32⟩
  | .hbm, ⟨38, _⟩ => ⟨S2048x1, .f32⟩
  | .hbm, ⟨39, _⟩ => ⟨S2048x1, .f32⟩
  | .hbm, ⟨40, _⟩ => ⟨S2048x1024, .f32⟩
  | .hbm, ⟨41, _⟩ => ⟨S2048x1024, .f32⟩
  | .hbm, ⟨42, _⟩ => ⟨S2048x1024, .f32⟩
  | .hbm, ⟨43, _⟩ => ⟨S2048x1024, .f32⟩
  | .hbm, ⟨44, _⟩ => ⟨S2048x1024, .f32⟩
  | .hbm, ⟨45, _⟩ => ⟨S_, .f32⟩
  | .hbm, ⟨46, _⟩ => ⟨S1024, .f32⟩
  | .hbm, ⟨47, _⟩ => ⟨S_, .f32⟩
  | .hbm, ⟨48, _⟩ => ⟨S1024, .f32⟩
  | .hbm, ⟨49, _⟩ => ⟨S1x1024, .f32⟩
  | .hbm, ⟨50, _⟩ => ⟨S1x1024, .f32⟩
  | .hbm, ⟨51, _⟩ => ⟨S2x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_call0_cst : Ref sig .tc := ⟨.hbm, 10, rfl⟩
abbrev main_call0_v0 : Ref sig .tc := ⟨.hbm, 11, rfl⟩
abbrev main_call0_v1 : Ref sig .tc := ⟨.hbm, 12, rfl⟩
abbrev main_call0_cst_0 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_cst_1 : Ref sig .tc := ⟨.hbm, 20, rfl⟩
abbrev main_call0_v8 : Ref sig .tc := ⟨.hbm, 21, rfl⟩
abbrev main_call0_cst_2 : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_v12 : Ref sig .tc := ⟨.hbm, 26, rfl⟩
abbrev main_call0_cst_3 : Ref sig .tc := ⟨.hbm, 27, rfl⟩
abbrev main_call0_v13 : Ref sig .tc := ⟨.hbm, 28, rfl⟩
abbrev main_call0_cst_4 : Ref sig .tc := ⟨.hbm, 29, rfl⟩
abbrev main_call0_call0_v0 : Ref sig .tc := ⟨.hbm, 30, rfl⟩
abbrev main_call0_call0_v1 : Ref sig .tc := ⟨.hbm, 31, rfl⟩
abbrev main_v4 : Ref sig .tc := ⟨.hbm, 32, rfl⟩
abbrev main_cst_1 : Ref sig .tc := ⟨.hbm, 33, rfl⟩
abbrev main_v5 : Ref sig .tc := ⟨.hbm, 34, rfl⟩
abbrev main_v6 : Ref sig .tc := ⟨.hbm, 35, rfl⟩
abbrev main_v7 : Ref sig .tc := ⟨.hbm, 36, rfl⟩
abbrev main_cst_2 : Ref sig .tc := ⟨.hbm, 37, rfl⟩
abbrev main_v8 : Ref sig .tc := ⟨.hbm, 38, rfl⟩
abbrev main_v9 : Ref sig .tc := ⟨.hbm, 39, rfl⟩
abbrev main_v10 : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩
abbrev main_cst_3 : Ref sig .tc := ⟨.hbm, 45, rfl⟩
abbrev main_v15 : Ref sig .tc := ⟨.hbm, 46, rfl⟩
abbrev main_cst_4 : Ref sig .tc := ⟨.hbm, 47, rfl⟩
abbrev main_v16 : Ref sig .tc := ⟨.hbm, 48, rfl⟩
abbrev main_v17 : Ref sig .tc := ⟨.hbm, 49, rfl⟩
abbrev main_v18 : Ref sig .tc := ⟨.hbm, 50, rfl⟩
abbrev main_v19 : Ref sig .tc := ⟨.hbm, 51, rfl⟩

abbrev nD : Nat := 1
abbrev τ : Topo := Topo.v7x

variable {F : FTy → Type} [FloatOps F]
-- ==== Proof.Windows.lean ====
/-
# The buffers and what they hold

Names for the kernel's memrefs and the windows of them it copies and loads: the four chunks of 128 rows a device reads
of its block of `x` and of `dy`, the four chunks of each scratch buffer they land in, the three slots of the landing
buffer. Then the contents: what each chunk reads, the accumulator after the fourth chunk as a function of the launch
memory, the result. Last, the facts about element sets (the chunks of a scratch buffer are disjoint and fill it, and so
do the slots) and the read-backs.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Transfers
public import Idealize.ShloMosaic.Lib.ViewIndex
public import Idealize.ShloMosaic.Lib.Tactic

@[expose] public section

noncomputable section

namespace Cert.NormBwd

open Cert.KernelIdeal Cert.KernelIdeal.Gen
open Idealize.ShloMosaic Idealize.ShloMosaic.TcCoe
open Idealize.SL Idealize.SL.Sem

variable {F : FTy → Type} [FloatOps F]

/-! ## Memrefs and windows -/

abbrev xH : Memref sig .tc .hbm S1024x1024 .f32 := Memref.whole main_arg0
abbrev dH : Memref sig .tc .hbm S1024x1024 .f32 := Memref.whole main_arg1
abbrev xV : Memref sig .tc .vmem S512x1024 .f32 := Memref.whole cc0_scratch0
abbrev dV : Memref sig .tc .vmem S512x1024 .f32 := Memref.whole cc0_scratch1
abbrev accV : Memref sig .tc .vmem S2x1024 .f32 := Memref.whole cc0_scratch2
abbrev comV : Memref sig .tc .vmem S3x2x1024 .f32 := Memref.whole cc0_scratch3
abbrev outV : Memref sig .tc .vmem S2x1024 .f32 := Memref.whole cc0_stg0_0

/-- The rows of its block that device `c` reads in chunk `r`. -/
abbrev rowsOf (c : Dev nD) (r : Fin 4) : Rect S1024x1024 :=
  Rect.unit (s := S1024x1024) (k0_off1 c (BitVec.ofNat 32 (128 * r.val))) S128x1024.size (k0_off1_inb c r)

/-- A chunk lies inside the scratch array. -/
theorem chunk_inb : ∀ (r : Fin 4) (a : Fin 2), (![128 * r.val, 0] : Fin 2 → ℕ) a + S128x1024.size a ≤ S512x1024.size a := by decide

/-- Chunk `r` of a scratch buffer. -/
abbrev chunkOf (r : Fin 4) : Rect S512x1024 := Rect.unit (s := S512x1024) ![128 * r.val, 0] S128x1024.size (chunk_inb r)

/-- A slot lies inside the landing array. -/
theorem slot_inb : ∀ (k : Fin 3) (a : Fin 3), (![k.val, 0, 0] : Fin 3 → ℕ) a + S1x2x1024.size a ≤ S3x2x1024.size a := by decide

/-- Slot `k` of the landing buffer. -/
abbrev slotOf (k : Fin 3) : Rect S3x2x1024 := Rect.unit (s := S3x2x1024) ![k.val, 0, 0] S1x2x1024.size (slot_inb k)

abbrev srcW (M : Memref sig .tc .hbm S1024x1024 .f32) (c : Dev nD) (r : Fin 4) : Memref sig .tc .hbm S128x1024 .f32 :=
  M.slice (rowsOf c r) (fun _ => rfl)
abbrev dstW (M : Memref sig .tc .vmem S512x1024 .f32) (r : Fin 4) : Memref sig .tc .vmem S128x1024 .f32 :=
  M.slice (chunkOf r) (fun _ => rfl)
abbrev slotW (k : Fin 3) : Memref sig .tc .vmem S2x1024 .f32 :=
  (comV.slice (slotOf k) (fun _ => rfl)).squeeze S2x1024 squeezes_S1x2x1024_S2x1024

/-! ## Contents -/

variable (m : (ℓ : Loc nD τ sig) → Buf (Elt F) ℓ)

/-- Chunk `r` of device `c`'s rows of `x`; -/
def xC (c : Dev nD) (r : Fin 4) : Vec F S128x1024 .f32 :=
  (srcW xH c r).view.read (Elt F) (m ((c : Thread nD τ).loc main_arg0))
/-- and of `dy`. -/
def dC (c : Dev nD) (r : Fin 4) : Vec F S128x1024 .f32 :=
  (srcW dH c r).view.read (Elt F) (m ((c : Thread nD τ).loc main_arg1))

/-- The accumulator of device `c` after chunk 0, 1, 2 and 3. -/
def acc0 (c : Dev nD) : Vec F S2x1024 .f32 := k0_pay3 (dC m c 0) (k0_pay2 (xC m c 0) (dC m c 0))
def acc1 (c : Dev nD) : Vec F S2x1024 .f32 := k0_pay5 (dC m c 1) (k0_pay4 (xC m c 1) (dC m c 1)) (acc0 m c)
def acc2 (c : Dev nD) : Vec F S2x1024 .f32 := k0_pay8 (dC m c 2) (k0_pay6 (xC m c 2)) (k0_pay7 (xC m c 2)) (acc1 m c)
def acc3 (c : Dev nD) : Vec F S2x1024 .f32 :=
  k0_pay12 (dC m c 3) (k0_pay9 (xC m c 3)) (k0_pay10 (xC m c 3)) k0_pay11 (acc2 m c)

/-- A slot of the landing buffer as a load reads it, given the accumulator that landed in it. -/
def asSlot (v : Vec F S2x1024 .f32) : Vec F S1x2x1024 .f32 :=
  fun i => v (Shape.reshapeEquiv (s := S2x1024) (s' := S1x2x1024) (Shape.Squeezes.numel_eq squeezes_S1x2x1024_S2x1024).symm i)

/-- The device that device `c` exchanges with on link `k`: across the columns, across the rows, across both. -/
def peer (k : Fin 3) (c : Dev nD) : Dev nD := (![![1, 0, 3, 2], ![2, 3, 0, 1], ![3, 2, 1, 0]] : Fin 3 → Fin 4 → Fin 4) k c

/-- Being a peer is mutual. -/
theorem peer_peer (k : Fin 3) (c : Dev nD) : peer k (peer k c) = c := by revert k c; decide

/-- Device `c`'s result: its accumulator plus those that came over the three links. -/
def outAt (c : Dev nD) : Vec F S2x1024 .f32 :=
  k0_pay1 (k0_pay13 (acc3 m c) (asSlot (acc3 m (peer 0 c)))) (asSlot (acc3 m (peer 1 c))) (asSlot (acc3 m (peer 2 c)))

/-! ## The kernel's device numbers -/

/-- The device each signal and each copy names is the peer. -/
theorem dev1_peer (c : Dev nD) : (⟨k0_dev1 c, k0_dev1_lt c⟩ : Dev nD) = peer 0 c := Fin.ext ((k0_dev1_eq c).trans (by revert c; decide))
/-- The same, for the second signal. -/
theorem dev2_peer (c : Dev nD) : (⟨k0_dev2 c, k0_dev2_lt c⟩ : Dev nD) = peer 1 c := Fin.ext ((k0_dev2_eq c).trans (by revert c; decide))
/-- The same, for the third signal. -/
theorem dev3_peer (c : Dev nD) : (⟨k0_dev3 c, k0_dev3_lt c⟩ : Dev nD) = peer 2 c := Fin.ext ((k0_dev3_eq c).trans (by revert c; decide))
/-- The same, for the first copy. -/
theorem dev4_peer (c : Dev nD) : (⟨k0_dev4 c, k0_dev4_lt c⟩ : Dev nD) = peer 0 c := Fin.ext ((k0_dev4_eq c).trans (by revert c; decide))
/-- The same, for the second copy. -/
theorem dev5_peer (c : Dev nD) : (⟨k0_dev5 c, k0_dev5_lt c⟩ : Dev nD) = peer 1 c := Fin.ext ((k0_dev5_eq c).trans (by revert c; decide))
/-- The same, for the third copy. -/
theorem dev6_peer (c : Dev nD) : (⟨k0_dev6 c, k0_dev6_lt c⟩ : Dev nD) = peer 2 c := Fin.ext ((k0_dev6_eq c).trans (by revert c; decide))

/-! ## Element sets -/

/-- A row rectangle of full width holds exactly the indices whose row is in its range. -/
theorem mem_chunk {r : Fin 4} {i : S512x1024.Idx} : i ∈ (chunkOf r).set ↔ 128 * r.val ≤ (i 0).val ∧ (i 0).val < 128 * r.val + 128 := by
  rw [Rect.mem_set_unit]
  constructor
  · intro h; exact h 0
  · intro h a
    fin_cases a
    · exact h
    · exact ⟨Nat.zero_le _, by simpa using (i 1).isLt⟩

/-- An index of a slot has the slot's number first. -/
theorem mem_slot {k : Fin 3} {i : S3x2x1024.Idx} : i ∈ (slotOf k).set ↔ (i 0).val = k.val := by
  rw [Rect.mem_set_unit]
  constructor
  · intro h; have := h 0; simp at this; omega
  · intro h a
    fin_cases a
    · constructor
      · exact h.ge
      · show (i 0).val < k.val + 1; omega
    · exact ⟨Nat.zero_le _, by simpa using (i 1).isLt⟩
    · exact ⟨Nat.zero_le _, by simpa using (i 2).isLt⟩

/-- Different chunks read different rows. -/
theorem rows_disjoint (c : Dev nD) {r r' : Fin 4} (h : r ≠ r') : Disjoint (rowsOf c r).set (rowsOf c r').set := by
  rw [Finset.disjoint_left]
  intro i hi hi'
  rw [Rect.mem_set_unit, k0_off1_eq] at hi hi'
  have h0 := hi 0
  have h1 := hi' 0
  simp at h0 h1
  exact h (Fin.ext (by omega))

/-- Different chunks of the scratch array share no entry. -/
theorem chunk_disjoint {r r' : Fin 4} (h : r ≠ r') : Disjoint (chunkOf r).set (chunkOf r').set := by
  rw [Finset.disjoint_left]
  intro i hi hi'
  rw [mem_chunk] at hi hi'
  exact h (Fin.ext (by omega))

/-- Different slots share no entry. -/
theorem slot_disjoint {k k' : Fin 3} (h : k ≠ k') : Disjoint (slotOf k).set (slotOf k').set := by
  rw [Finset.disjoint_left]
  intro i hi hi'
  rw [mem_slot] at hi hi'
  exact h (Fin.ext (hi.symm.trans hi'))

/-- The chunks cover the scratch array. -/
theorem chunk_cover : (Finset.univ.biUnion fun r : Fin 4 => (chunkOf r).set) = Finset.univ := by
  refine Finset.eq_univ_of_forall fun i => ?_
  have hi : (i 0).val < 512 := (i 0).isLt
  exact Finset.mem_biUnion.mpr ⟨⟨(i 0).val / 128, by omega⟩, Finset.mem_univ _, mem_chunk.mpr ⟨by show 128 * ((i 0).val / 128) ≤ _; omega, by show _ < 128 * ((i 0).val / 128) + 128; omega⟩⟩

/-- The slots cover the landing array. -/
theorem slot_cover : (Finset.univ.biUnion fun k : Fin 3 => (slotOf k).set) = Finset.univ :=
  Finset.eq_univ_of_forall fun i => Finset.mem_biUnion.mpr ⟨⟨(i 0).val, (i 0).isLt⟩, Finset.mem_univ _, mem_slot.mpr rfl⟩

/-! ## Read-backs -/

/-- The zero offset. -/
theorem zero2 : (![0, 0] : Fin 2 → ℕ) = fun _ => 0 := funext fun a => by fin_cases a <;> rfl

/-- Loading a chunk just written reads what was written. -/
theorem read_chunk (M : Memref sig .tc .vmem S512x1024 .f32) (r : Fin 4) (f : M.view.ty.Contents (Elt F)) (w : S128x1024.Idx → Elt F .f32) :
    M.view.readAt (Elt F) (chunkOf r).toLoadRect ((dstW M r).view.write (Elt F) f w Finset.univ) = w :=
  View.read_write_univ (v := M.view.slice (chunkOf r)) f w

/-- Loading a slot in which an accumulator landed reads that accumulator, as the load's shape lists it. -/
theorem read_slot (k : Fin 3) (f : comV.view.ty.Contents (Elt F)) (v : Vec F S2x1024 .f32) (h : (slotW k).view.read (Elt F) f = v) :
    comV.view.readAt (Elt F) (slotOf k).toLoadRect f = asSlot v := by
  funext i
  subst h
  show (comV.view.slice (slotOf k)).read (Elt F) f i
    = (comV.view.slice (slotOf k)).read (Elt F) f (Shape.reshapeEquiv _ (Shape.reshapeEquiv _ i))
  rw [Shape.reshapeEquiv_reshapeEquiv, Shape.reshapeEquiv_self]

abbrev all2 : Rect S2x1024 := Rect.unit (s := S2x1024) ![0, 0] S2x1024.size inb_S2x1024_S2x1024_0_0

/-- Reading the accumulator reads all of it. -/
theorem read_acc (f : accV.view.ty.Contents (Elt F)) : accV.view.readAt (Elt F) all2.toLoadRect f = f :=
  Memref.readAt_unit_zero (Elt F) cc0_scratch2 zero2 _ f
/-- Writing the accumulator replaces all of it. -/
theorem write_acc (f w : accV.view.ty.Contents (Elt F)) : (accV.access all2 : View sig .tc _ _ _).write (Elt F) f w Finset.univ = w :=
  Memref.write_access_unit_zero_univ (Elt F) cc0_scratch2 zero2 _ f w
/-- Writing the result replaces all of it. -/
theorem write_out (f w : outV.view.ty.Contents (Elt F)) : (outV.access all2 : View sig .tc _ _ _).write (Elt F) f w Finset.univ = w :=
  Memref.write_access_unit_zero_univ (Elt F) cc0_stg0_0 zero2 _ f w

end Cert.NormBwd

end
-- ==== Proof.Protocol.lean ====
/-
# The protocol of the exchange

Every device has seven cells: its barrier counter, and for each of its three links a send and a receive counter. One
round each.

* Barrier, three duties, one unit each: duty `k` is paid by the device at the other end of link `k`, and hands over slot
  `k` of that device's landing buffer.
* Send counter of link `k`, one duty, paid by the device's own transfer when its source has been read: it hands back the
  share of the accumulator the transfer borrowed.
* Receive counter of link `k`, one duty, paid by the transfer from the other end: it hands over slot `k` of the device's
  landing buffer with the other end's accumulator in it.

What a device owes at launch is a list of such units, settled from the head. Levels: barrier 1, receive 2, all else 0;
a device waits on a level only while what it owes lies above it.
-/
module

public import proofs.«01_k».proof.Proof.Windows
public import Idealize.ShloMosaic.Lib.Ring

@[expose] public section

noncomputable section

namespace Cert.NormBwd

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra: the pipeline's rounds, the exchange's rounds, the local transfers' counters -/

abbrev UX : Type := URounds (GSem nD τ sig) (Fin 3)
abbrev UU : Type := UR sig nD τ × (UX × Counters)

local notation "𝕄" => MT nD τ sig Unit (Elt F) ℕ UU ℕ

abbrev EP : Emb (UR sig nD τ) (MT nD τ sig Unit (Elt F) ℕ UU ℕ) := embL
/-- The exchange's rounds, the left half of the right factor. -/
def EX : Emb UX (MT nD τ sig Unit (Elt F) ℕ UU ℕ) := (Emb.inl : Emb UX (UX × Counters)).trans embR
/-- The exchange's ghost state lives in the user part of the resource. -/
instance EX_lands : (EX : Emb UX 𝕄).LandsIn (upEmb : UEmb _ 𝕄) := by unfold EX; infer_instance
/-- The local transfers' counters. -/
abbrev EC : UEmb Counters (MT nD τ sig Unit (Elt F) ℕ UU ℕ) := countersEmb

/-! ## Counters -/

abbrev barS : Sem sig := (SemArray.scalar (sig.barrier 0 rfl) : Sems sig S_).sem
set_option backward.proofsInPublic true in
abbrev inS (j : Fin 8) : DmaSem sig := ⟨1 + j.val, by have := j.isLt; show 1 + j.val < 15; omega⟩
set_option backward.proofsInPublic true in
abbrev sendS (k : Fin 3) : DmaSem sig := ⟨9 + k.val, by have := k.isLt; show 9 + k.val < 15; omega⟩
set_option backward.proofsInPublic true in
abbrev recvS (k : Fin 3) : DmaSem sig := ⟨12 + k.val, by have := k.isLt; show 12 + k.val < 15; omega⟩

/-- A device's cells: the barrier, or the send (`false`) or receive (`true`) counter of a link. -/
abbrev Part : Type := Option (Bool × Fin 3)

def csem : Part → SemLoc sig
  | none => .reg barS
  | some (false, k) => .dma (sendS k)
  | some (true, k) => .dma (recvS k)

/-- Which of a device's cells a counter is, if any. -/
def part (s : SemLoc sig) : Option Part :=
  if s = .reg barS then some none
  else if s = .dma (sendS 0) then some (some (false, 0)) else if s = .dma (sendS 1) then some (some (false, 1))
  else if s = .dma (sendS 2) then some (some (false, 2)) else if s = .dma (recvS 0) then some (some (true, 0))
  else if s = .dma (recvS 1) then some (some (true, 1)) else if s = .dma (recvS 2) then some (some (true, 2)) else none

/-- A cell's semaphore names its part. -/
theorem part_csem (p : Part) : part (csem p) = some p := by revert p; decide
/-- The semaphores of the copies in belong to no part of the exchange. -/
theorem part_in (j : Fin 8) : part (.dma (inS j)) = none := by revert j; decide

abbrev cell (c : Dev nD) (p : Part) : GSem nD τ sig := ((c : Thread nD τ), csem p)

/-- Different devices or parts have different cells. -/
theorem cell_inj {c c' : Dev nD} {p p' : Part} (h : cell c p = cell c' p') : c = c' ∧ p = p' := by
  have h1 : c = c' := congrArg (fun g : GSem nD τ sig => g.1.1) h
  have h2 : csem p = csem p' := congrArg Prod.snd h
  exact ⟨h1, Option.some.inj ((part_csem p).symm.trans ((congrArg part h2).trans (part_csem p')))⟩

/-- A separating product over three indices, written out. -/
theorem bigSep_three (Φ : Fin 3 → sProp 𝕄) : bigSep Finset.univ Φ = iprop(Φ 0 ∗ Φ 1 ∗ Φ 2) :=
  bigSep_univ_eq_bigSepL [(0 : Fin 3), 1, 2] (by decide) (by decide) Φ
/-- A separating product over four indices, written out. -/
theorem bigSep_four (Φ : Fin 4 → sProp 𝕄) : bigSep Finset.univ Φ = iprop(Φ 0 ∗ Φ 1 ∗ Φ 2 ∗ Φ 3) :=
  bigSep_univ_eq_bigSepL [(0 : Fin 4), 1, 2, 3] (by decide) (by decide) Φ

/-- The credit of one transfer of an accumulator. -/
abbrev N : ℕ := (slotW 0).view.dmaCredit
/-- A message has a positive number of units. -/
theorem N_pos : 0 < N := View.dmaCredit_pos _ (by decide)

/-! ## What the cells hand over -/

variable (m : (ℓ : Loc nD τ sig) → Buf (Elt F) ℓ)

/-- The three shares of the accumulator the three transfers borrow. -/
def shareOf : Fin 3 → PosShare TreeShare
  | 0 => fullShare.left
  | 1 => fullShare.right.left
  | 2 => fullShare.right.right

/-- Slot `k` of device `c`'s landing buffer, at some contents; -/
def slotFree (c : Dev nD) (k : Fin 3) : sProp 𝕄 :=
  iprop(∃ f : Buf (Elt F) ((slotW k).view.loc (c : Thread nD τ)), (slotW k).view.loc (c : Thread nD τ) ↦[(slotW k).view.set]{fullShare} f)
/-- and holding `v`. -/
def slotAt (c : Dev nD) (k : Fin 3) (v : Vec F S2x1024 .f32) : sProp 𝕄 :=
  iprop(∃ f : Buf (Elt F) ((slotW k).view.loc (c : Thread nD τ)), ⌜(slotW k).view.read (Elt F) f = v⌝ ∗ (slotW k).view.loc (c : Thread nD τ) ↦[(slotW k).view.set]{fullShare} f)
/-- A share of device `c`'s accumulator, complete. -/
def accShare (c : Dev nD) (k : Fin 3) : sProp 𝕄 :=
  accV.view.loc (c : Thread nD τ) ↦[accV.view.set]{shareOf k} (acc3 m c : Buf (Elt F) (accV.view.loc (c : Thread nD τ)))

def pay (c : Dev nD) : Part → Fin 3 → sProp 𝕄
  | none, d => slotFree (F := F) (peer d c) d
  | some (false, k), _ => accShare m c k
  | some (true, k), _ => slotAt c k (acc3 m (peer k c))

/-- What a part's duty hands over can be kept in an invariant. -/
instance pay_storable (c : Dev nD) (p : Part) (d : Fin 3) : BI.Storable (upEmb : UEmb _ 𝕄) (pay m c p d) := by
  rcases p with _ | ⟨_ | _, k⟩
  · show BI.Storable upEmb (slotFree (F := F) (peer d c) d); unfold slotFree; infer_instance
  · show BI.Storable upEmb (accShare m c k); unfold accShare; infer_instance
  · show BI.Storable upEmb (slotAt c k (acc3 m (peer k c))); unfold slotAt; infer_instance

/-- The duties of a cell and their amounts. -/
def dutiesAt : Part → Finset (Fin 3)
  | none => Finset.univ
  | some _ => {0}
def amountAt : Part → ℕ
  | none => 1
  | some _ => N

/-- The exchange's schedule: one round per cell. -/
def sched : Rounds.Schedule (GSem nD τ sig) (Fin 3) 𝕄 where
  duties g r := if g.1.2 = .tc ∧ r = 0 then (part g.2).elim ∅ dutiesAt else ∅
  unitless _ := False
  amount g _ _ := (part g.2).elim 1 amountAt
  payload g _ d := (part g.2).elim iprop(emp) fun p => pay m g.1.1 p d
  amount_pos g _ _ _ := by
    show 0 < (part g.2).elim 1 amountAt
    rcases part g.2 with _ | _ | p
    · exact Nat.one_pos
    · exact Nat.one_pos
    · exact N_pos

/-- So can every payload of the schedule. -/
instance sched_storable (g : GSem nD τ sig) (r : ℕ) (d : Fin 3) : BI.Storable (upEmb : UEmb _ 𝕄) ((sched (F := F) m).payload g r d) := by
  show BI.Storable upEmb ((part g.2).elim iprop(emp) fun p => pay m g.1.1 p d)
  rcases part g.2 with _ | p
  · show BI.Storable upEmb (iprop(emp) : sProp 𝕄); infer_instance
  · show BI.Storable upEmb (pay m g.1.1 p d); infer_instance

section Tables
variable (c : Dev nD) (p : Part)

/-- The duties of a cell in its one round. -/
theorem duties_cell : (sched (F := F) m).duties (cell c p) 0 = dutiesAt p := by
  show (if (cell c p).1.2 = .tc ∧ (0 : ℕ) = 0 then (part (csem p)).elim ∅ dutiesAt else ∅) = _
  rw [if_pos ⟨rfl, rfl⟩, part_csem]; rfl
/-- No cell has a duty after its first round. -/
theorem duties_after (g : GSem nD τ sig) : ∀ r, 1 ≤ r → (sched (F := F) m).duties g r = ∅ :=
  fun r hr => if_neg fun h => by omega
/-- What each duty adds to its cell's counter. -/
theorem amount_cell (d : Fin 3) : (sched (F := F) m).amount (cell c p) 0 d = amountAt p := by
  show (part (csem p)).elim 1 amountAt = _
  rw [part_csem]; rfl
/-- What each duty hands over. -/
theorem payload_cell (d : Fin 3) : (sched (F := F) m).payload (cell c p) 0 d = pay m c p d := by
  show (part (csem p)).elim iprop(emp) (fun p => pay m c p d) = _
  rw [part_csem]; rfl

/-- The barrier cell expects three units. -/
theorem expect_bar : (sched (F := F) m).expect (cell c none) 0 = 3 := by
  unfold Schedule.expect Schedule.amountOf
  rw [duties_cell, Finset.sum_congr rfl fun d _ => amount_cell m c none d]; rfl
/-- A send or receive cell expects one message. -/
theorem expect_link (x : Bool × Fin 3) : (sched (F := F) m).expect (cell c (some x)) 0 = N := by
  unfold Schedule.expect Schedule.amountOf
  rw [duties_cell, show dutiesAt (some x) = {0} from rfl, Finset.sum_singleton, amount_cell]; rfl

/-- What the barrier's round hands over: the three slots at the other ends. -/
theorem round_bar : bigSep ((sched (F := F) m).duties (cell c none) 0 \ ∅) (fun d => (sched (F := F) m).payload (cell c none) 0 d)
    = iprop(slotFree (F := F) (peer 0 c) 0 ∗ slotFree (F := F) (peer 1 c) 1 ∗ slotFree (F := F) (peer 2 c) 2) := by
  rw [Finset.sdiff_empty, duties_cell, show dutiesAt none = Finset.univ from rfl,
    bigSep_three]
  rw [payload_cell, payload_cell, payload_cell]
  rfl
/-- What a link counter's round hands over. -/
theorem round_link (x : Bool × Fin 3) :
    bigSep ((sched (F := F) m).duties (cell c (some x)) 0 \ ∅) (fun d => (sched (F := F) m).payload (cell c (some x)) 0 d) = pay m c (some x) 0 := by
  rw [Finset.sdiff_empty, duties_cell, show dutiesAt (some x) = {0} from rfl, bigSep_singleton, payload_cell]

end Tables

/-! ## What a device owes -/

/-- A debt of device `c`: a unit on the barrier at the other end of link `k` (`false`), or the transfer's credit on the
    receive counter there (`true`). -/
abbrev debtCell (c : Dev nD) (x : Bool × Fin 3) : GSem nD τ sig := cell (peer x.2 c) (if x.1 then some (true, x.2) else none)
abbrev debtUnits (x : Bool × Fin 3) : ℕ := if x.1 then N else 1

/-- A list of debts, the head settled first. -/
def owe (c : Dev nD) : List (Bool × Fin 3) → CellTallies nD τ sig Unit
  | [] => 0
  | x :: l => owe c l + tallyAt (debtCell c x) () (debtUnits x)

abbrev sends : List (Bool × Fin 3) := [(true, 0), (true, 1), (true, 2)]
abbrev debts : List (Bool × Fin 3) := [(false, 0), (false, 1), (false, 2), (true, 0), (true, 1), (true, 2)]

/-- A positive debt is to a cell named in the list of debts. -/
theorem owe_pos {c : Dev nD} {l : List (Bool × Fin 3)} {g : GSem nD τ sig} {u : Unit} (h : 0 < owe c l g u) : ∃ x ∈ l, g = debtCell c x := by
  induction l with
  | nil => exact absurd h (Nat.lt_irrefl 0)
  | cons x l ih =>
    unfold owe at h
    rw [Pi.add_apply, Finsupp.add_apply, tallyAt_apply] at h
    by_cases hx : g = debtCell c x ∧ u = ()
    · exact ⟨x, List.mem_cons_self, hx.1⟩
    · rw [if_neg hx, Nat.add_zero] at h
      obtain ⟨y, hy, e⟩ := ih h
      exact ⟨y, List.mem_cons_of_mem _ hy, e⟩

def L (g : GSem nD τ sig) : Finset Unit := if g.1.2 = .tc then {()} else ∅
/-- Barrier 1, receive 2, everything else 0. -/
def rank : Option Part → ℕ
  | some none => 1
  | some (some (true, _)) => 2
  | _ => 0
def lv (g : GSem nD τ sig) (_ : Unit) : ℕ := rank (part g.2)

/-- Only the main core of a device has levels. -/
theorem L_off (g : GSem nD τ sig) (h : g.1.2 ≠ .tc) : L g = ∅ := if_neg h
/-- Every semaphore of a main core has its level. -/
theorem mem_L (c : Dev nD) (s : SemLoc sig) (u : Unit) : u ∈ L ((c : Thread nD τ), s) := by
  unfold L; rw [if_pos rfl]; exact Finset.mem_singleton_self _

/-- A device may wait on a counter of rank `n` while everything in its list of debts has a greater rank. -/
theorem mayWait_owe (c : Dev nD) (s : SemLoc sig) (n : ℕ) (hs : rank (part s) = n) (l : List (Bool × Fin 3))
    (hl : ∀ x ∈ l, n < rank (some (if x.1 then some (true, x.2) else none))) :
    (levAts L lv : sProp 𝕄) ⊢ MayWait (c : Thread nD τ) s () (owe c l) :=
  MayOwe.of_cut (L := L) (lev := lv) n
    (fun p hp => by rw [Finset.mem_singleton.mp hp]; exact mem_L c s _)
    (fun g u hg => by obtain ⟨x, -, rfl⟩ := owe_pos hg; exact mem_L _ _ _)
    (fun p hp => by rw [Finset.mem_singleton.mp hp]; exact hs.le)
    (fun g u hg => by
      obtain ⟨x, hx, rfl⟩ := owe_pos hg
      show n < rank (part (csem _))
      rw [part_csem]; exact hl x hx)

/-- With only sends owed, a device may wait for a copy in. -/
theorem mayWait_sends_in (c : Dev nD) (j : Fin 8) : (levAts L lv : sProp 𝕄) ⊢ MayWait (c : Thread nD τ) (.dma (inS j)) () (owe c sends) :=
  mayWait_owe c _ 0 (by rw [part_in]; rfl) _ (by decide)
/-- With only sends owed, a device may wait at the barrier. -/
theorem mayWait_sends_bar (c : Dev nD) : (levAts L lv : sProp 𝕄) ⊢ MayWait (c : Thread nD τ) (csem none) () (owe c sends) :=
  mayWait_owe c _ 1 (by rw [part_csem]; rfl) _ (by decide)

/-! ## Buffers held in pieces -/

/-- The elements of a block that chunk `r` reads, of a scratch buffer's chunk `r`, of the landing buffer's slot `k`. -/
abbrev rowSet (M : Memref sig .tc .hbm S1024x1024 .f32) (c : Dev nD) (r : Fin 4) : Finset M.view.ty.Idx := (srcW M c r).view.set
abbrev chunkSet (M : Memref sig .tc .vmem S512x1024 .f32) (r : Fin 4) : Finset M.view.ty.Idx := (dstW M r).view.set
abbrev slotSet (k : Fin 3) : Finset comV.view.ty.Idx := (slotW k).view.set

/-- The rows of `x` or `dy` a device reads, chunk by chunk, and the rest. -/
theorem rows_split (M : Memref sig .tc .hbm S1024x1024 .f32) (c : Dev nD) (f : Buf (Elt F) (M.view.loc (c : Thread nD τ))) :
    ((M.view.loc (c : Thread nD τ) ↦{fullShare} f : sProp 𝕄))
      ⊣⊢ iprop((bigSep Finset.univ fun r : Fin 4 => M.view.loc (c : Thread nD τ) ↦[rowSet M c r]{fullShare} f)
        ∗ M.view.loc (c : Thread nD τ) ↦[Finset.univ \ Finset.univ.biUnion fun r : Fin 4 => rowSet M c r]{fullShare} f) := by
  have h := pointsTo_biUnion (Ix := Unit) (Name := ℕ) (U := UU) (Lvl := ℕ) (ℓ := M.view.loc (c : Thread nD τ)) (q := fullShare) (f := f)
    Finset.univ (fun r : Fin 4 => rowSet M c r)
    (fun r _ r' _ h => View.disjoint_slice (v := M.view) (rows_disjoint c h))
  rw [← h]
  exact pointsTo_split_subset (Finset.subset_univ _)

/-- Different chunks of a scratch array share no entry. -/
theorem chunks_apart (M : Memref sig .tc .vmem S512x1024 .f32) (r r' : Fin 4) (h : r ≠ r') : Disjoint (chunkSet M r) (chunkSet M r') :=
  View.disjoint_slice (v := M.view) (chunk_disjoint h)

/-- The four chunks make up a scratch array. -/
theorem chunks_cover (M : Memref sig .tc .vmem S512x1024 .f32) (hM : M.view.set = Finset.univ) :
    (Finset.univ.biUnion fun r : Fin 4 => chunkSet M r) = Finset.univ := by
  rw [← hM]
  show _ = Finset.univ.map M.view.emb
  rw [← chunk_cover]
  ext i
  simp only [Finset.mem_biUnion, Finset.mem_univ, true_and, Finset.mem_map]
  constructor
  · rintro ⟨r, hr⟩
    have hr' : i ∈ (M.view.slice (chunkOf r)).set := hr
    rw [View.set_slice, Finset.mem_map] at hr'
    obtain ⟨j, hj, e⟩ := hr'
    exact ⟨j, ⟨r, hj⟩, e⟩
  · rintro ⟨j, ⟨r, hj⟩, e⟩
    refine ⟨r, ?_⟩
    show i ∈ (M.view.slice (chunkOf r)).set
    rw [View.set_slice]
    exact Finset.mem_map.mpr ⟨j, hj, e⟩

/-- A landing slot covers one plane of the landing array. -/
theorem slotSet_eq (k : Fin 3) : slotSet k = (slotOf k).set := (View.set_reshape _ _).trans (View.set_slice_whole _ _)

/-- The three slots make up the landing array. -/
theorem slots_cover : (Finset.univ.biUnion fun k : Fin 3 => slotSet k) = Finset.univ := by
  rw [show (fun k : Fin 3 => slotSet k) = fun k => (slotOf k).set from funext slotSet_eq]
  exact slot_cover

/-- Different slots share no entry. -/
theorem slots_apart (k k' : Fin 3) (h : k ≠ k') : Disjoint (slotSet k) (slotSet k') := by
  rw [slotSet_eq, slotSet_eq]
  exact slot_disjoint h

/-- A scratch buffer, chunk by chunk; -/
theorem chunks_split (M : Memref sig .tc .vmem S512x1024 .f32) (hM : M.view.set = Finset.univ) (c : Dev nD) (f : Buf (Elt F) (M.view.loc (c : Thread nD τ))) :
    (M.view.loc (c : Thread nD τ) ↦{fullShare} f : sProp 𝕄)
      = bigSep Finset.univ fun r : Fin 4 => M.view.loc (c : Thread nD τ) ↦[chunkSet M r]{fullShare} f :=
  Ring.pointsTo_blocks (ℓ := M.view.loc (c : Thread nD τ)) (fun r : Fin 4 => chunkSet M r) (chunks_apart M) (chunks_cover M hM) f
/-- and whole again, at some contents. -/
theorem chunks_join (M : Memref sig .tc .vmem S512x1024 .f32) (hM : M.view.set = Finset.univ) (c : Dev nD) (f₀ : Buf (Elt F) (M.view.loc (c : Thread nD τ))) :
    (bigSep Finset.univ fun r : Fin 4 => iprop(∃ f, M.view.loc (c : Thread nD τ) ↦[chunkSet M r]{fullShare} f) : sProp 𝕄)
      ⊢ iprop(∃ f, M.view.loc (c : Thread nD τ) ↦{fullShare} f) :=
  Ring.pointsTo_blocks_join_exists (ℓ := M.view.loc (c : Thread nD τ)) (fun r : Fin 4 => chunkSet M r) (chunks_apart M) (chunks_cover M hM) f₀

/-- The landing buffer, slot by slot; -/
theorem slots_split (c : Dev nD) (f : Buf (Elt F) (comV.view.loc (c : Thread nD τ))) :
    (comV.view.loc (c : Thread nD τ) ↦{fullShare} f : sProp 𝕄) ⊢ iprop(slotFree (F := F) c 0 ∗ slotFree (F := F) c 1 ∗ slotFree (F := F) c 2) := by
  rw [Ring.pointsTo_blocks (ℓ := comV.view.loc (c : Thread nD τ)) (fun k : Fin 3 => slotSet k) slots_apart slots_cover f,
    bigSep_three]
  unfold slotFree
  iintro ⟨H0, H1, H2⟩
  isplitl [H0]; · iexists f; iexact H0
  isplitl [H1]; · iexists f; iexact H1
  iexists f; iexact H2
/-- and whole again, at some contents. -/
theorem slots_join (c : Dev nD) :
    iprop(slotFree (F := F) c 0 ∗ slotFree (F := F) c 1 ∗ slotFree (F := F) c 2)
      ⊢ (iprop(∃ f, comV.view.loc (c : Thread nD τ) ↦{fullShare} f) : sProp 𝕄) := by
  unfold slotFree
  iintro ⟨⟨%f0, H0⟩, H1, H2⟩
  iapply (Ring.pointsTo_blocks_join_exists (ℓ := comV.view.loc (c : Thread nD τ)) (fun k : Fin 3 => slotSet k) slots_apart slots_cover f0)
  rw [bigSep_three]
  isplitl [H0]; · iexists f0; iexact H0
  isplitl [H1] <;> iassumption

/-- The accumulator in its three shares. -/
theorem acc_shares (c : Dev nD) :
    (accV.view.loc (c : Thread nD τ) ↦{fullShare} (acc3 m c : Buf (Elt F) (accV.view.loc (c : Thread nD τ))) : sProp 𝕄)
      ⊣⊢ iprop(accShare m c 0 ∗ accShare m c 1 ∗ accShare m c 2) := by
  unfold accShare
  rw [show accV.view.set = Finset.univ from View.set_whole _]
  have h1 := pointsTo_share (Ix := Unit) (Name := ℕ) (U := UU) (Lvl := ℕ) (ℓ := accV.view.loc (c : Thread nD τ)) (I := Finset.univ)
    (f := (acc3 m c : Buf (Elt F) (accV.view.loc (c : Thread nD τ)))) (PosShare.mem_left_op_right fullShare)
  have h2 := pointsTo_share (Ix := Unit) (Name := ℕ) (U := UU) (Lvl := ℕ) (ℓ := accV.view.loc (c : Thread nD τ)) (I := Finset.univ)
    (f := (acc3 m c : Buf (Elt F) (accV.view.loc (c : Thread nD τ)))) (PosShare.mem_left_op_right fullShare.right)
  exact ⟨h1.1.trans (sep_mono_right h2.1), (sep_mono_right h2.2).trans h1.2⟩

end Cert.NormBwd

end
-- ==== Proof.Body.lean ====
/-
# One device's kernel body

The body run rule by rule, from what the launch hands a device to what it hands back: three signals, eight local
transfers into the scratch buffers, four rounds of wait, load and accumulate, the barrier wait, the three transfers of
the accumulator, their six waits, and the final sum.
-/
module

public import proofs.«01_k».proof.Proof.Protocol
public import proofs.«01_k».proof.Proof.Gen.KernelIdeal.Points

@[expose] public section

noncomputable section

namespace Cert.NormBwd

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-! ## What a device holds of the exchange -/

/-- Every cell's invariant, under the names `K`, and that every cell has reached its round. -/
def records (K : Dev nD × Part → ℕ) : sProp 𝕄 :=
  iprop((bigSep Finset.univ fun x : Dev nD × Part => cellInv EX (sched m) (K x) (cell x.1 x.2))
    ∗ bigSep Finset.univ fun x : Dev nD × Part => reached EX (cell x.1 x.2) 0)

/-- The record of the cells may be used any number of times. -/
instance records_persistent (K : Dev nD × Part → ℕ) : BI.Persistent (records m K) := by unfold records; infer_instance

/-- The record holds every cell's invariant. -/
theorem inv_of (K : Dev nD × Part → ℕ) (c : Dev nD) (p : Part) : records m K ⊢ cellInv EX (sched m) (K (c, p)) (cell c p) :=
  sep_elim_left.trans (bigSep_elim (Finset.mem_univ (c, p)))
/-- Every cell has reached its first round. -/
theorem mark_of (K : Dev nD × Part → ℕ) (c : Dev nD) (p : Part) : records m K ⊢ reached EX (cell c p) 0 :=
  sep_elim_right.trans (bigSep_elim (Finset.mem_univ (c, p)))

/-- The duties a device pays: on link `k`, the barrier duty at the other end, its own send duty, the receive duty at the
    other end. -/
def duesOf (c : Dev nD) (k : Fin 3) : sProp 𝕄 :=
  iprop(dutyTok EX (cell (peer k c) none) 0 k ∗ dutyTok EX (cell c (some (false, k))) 0 0 ∗ dutyTok EX (cell (peer k c) (some (true, k))) 0 0)

/-- Its positions on its own cells. -/
def posOf (c : Dev nD) : sProp 𝕄 :=
  iprop(atPos EX (cell c none) 0 ∅ 0 ∗ bigSep Finset.univ fun k : Fin 3 => iprop(atPos EX (cell c (some (false, k))) 0 ∅ 0 ∗ atPos EX (cell c (some (true, k))) 0 ∅ 0))

/-- Its eight local transfer counters at zero. -/
def inSems (c : Dev nD) : sProp 𝕄 := bigSep Finset.univ fun j : Fin 8 => semVal ((c : Thread nD τ), .dma (inS j)) 0

/-- Its blocks of `x` and `dy`, as at launch. -/
def argsAt (c : Dev nD) : sProp 𝕄 :=
  iprop((xH.view.loc (c : Thread nD τ) ↦{fullShare} m ((c : Thread nD τ).loc main_arg0)) ∗ (dH.view.loc (c : Thread nD τ) ↦{fullShare} m ((c : Thread nD τ).loc main_arg1)))

/-- The scratch buffers, each at some contents. -/
def scratch (c : Dev nD) : sProp 𝕄 :=
  iprop((∃ f : Buf (Elt F) (xV.view.loc (c : Thread nD τ)), xV.view.loc (c : Thread nD τ) ↦{fullShare} f)
    ∗ (∃ f : Buf (Elt F) (dV.view.loc (c : Thread nD τ)), dV.view.loc (c : Thread nD τ) ↦{fullShare} f)
    ∗ (∃ f : Buf (Elt F) (accV.view.loc (c : Thread nD τ)), accV.view.loc (c : Thread nD τ) ↦{fullShare} f)
    ∗ (∃ f : Buf (Elt F) (comV.view.loc (c : Thread nD τ)), comV.view.loc (c : Thread nD τ) ↦{fullShare} f))

/-- What a device's exchange starts from. -/
def ghost (K : Dev nD × Part → ℕ) (c : Dev nD) : sProp 𝕄 :=
  iprop(records m K ∗ posOf c ∗ (bigSep Finset.univ fun k : Fin 3 => duesOf c k) ∗ inSems c)

/-- Everything a device's body starts from but the scratch buffers. -/
def start (c : Dev nD) : sProp 𝕄 :=
  iprop((∃ K, ghost m K c) ∗ (cred (tallyAt (cell c none) () 3) ∗ bigSep Finset.univ fun k : Fin 3 => cred (tallyAt (cell c (some (true, k))) () N))
    ∗ levAts L lv ∗ argsAt m c)

/-- The counters a device closes: at zero again. -/
def closed (c : Dev nD) : sProp 𝕄 :=
  iprop(semVal (cell c none) 0 ∗ (bigSep Finset.univ fun k : Fin 3 => iprop(semVal (cell c (some (false, k))) 0 ∗ semVal (cell c (some (true, k))) 0)) ∗ inSems c)

def before₀ (c : Dev nD) : sProp 𝕄 := iprop(start m c ∗ scratch c)
def after₀ (c : Dev nD) : sProp 𝕄 := iprop(closed c ∗ argsAt m c ∗ scratch c)

/-- The pipeline's proof data: the result window after the one point, the two ends of the body, what is owed there. -/
def dats (_ : Fin 1) (c : Dev nD) : Dat τ (Elt F) Unit ℕ UU ℕ cfg0 c where
  A w := m ((cfg0.win w).arr.view.loc (c : Thread nD τ))
  after w _ := match w with
    | ⟨0, _⟩ => outAt m c
  Φ t := match t with
    | ⟨0, _⟩ => before₀ m c
    | ⟨_ + 1, _⟩ => after₀ m c
  q _ := fullShare
  owed t := match t with
    | ⟨0, _⟩ => owe c debts
    | ⟨_ + 1, _⟩ => 0

/-- The result's staging buffer, holding `X`. -/
abbrev staged (c : Dev nD) (X : Vec F S2x1024 .f32) : sProp 𝕄 :=
  iprop(∃ f : Buf (Elt F) ((c : Thread nD τ).loc cc0_stg0_0), ⌜f = X⌝ ∗ (((c : Thread nD τ).loc cc0_stg0_0) ↦{fullShare} f))

/-- What device `c` still owes, whatever it has waited on. -/
def owed (c : Dev nD) (l : List (Bool × Fin 3)) : sProp 𝕄 := iprop(∃ W : Waits sig Unit, owes (c : Thread nD τ) (owe c l) W)

def bodyPre (K : Dev nD × Part → ℕ) (c : Dev nD) : sProp 𝕄 :=
  iprop(ghost m K c ∗ (cred (tallyAt (cell c none) () 3) ∗ bigSep Finset.univ fun k : Fin 3 => cred (tallyAt (cell c (some (true, k))) () N))
    ∗ levAts L lv ∗ argsAt m c ∗ scratch c ∗ owed c debts
    ∗ ∃ f : Buf (Elt F) ((c : Thread nD τ).loc cc0_stg0_0), ((c : Thread nD τ).loc cc0_stg0_0) ↦{fullShare} f)

def bodyPost (c : Dev nD) : sProp 𝕄 :=
  iprop(after₀ m c ∗ owed c [] ∗ staged c (outAt m c))

/-! ## The steps -/

section Steps

variable {α : Type} (K : Dev nD × Part → ℕ) (c : Dev nD)

/-- Running a program of a device's core. -/
abbrev run (c : Dev nD) (p : Prog (TpuEff nD τ sig (Elt F) Λ₀ .tc) α) (Q : α → sProp 𝕄) : sProp 𝕄 :=
  wp frame (wpE (defs₀ (F := F)) 𝒱₀ (c : Thread nD τ) none) Set.univ p Q

/-- A barrier signal to a peer carries the signaller's free landing slot for it. -/
theorem pay_bar (k : Fin 3) : slotFree (F := F) c k ⊢ (sched (F := F) m).payload ((peer k c : Thread nD τ), .reg barS) 0 k := by
  refine BIBase.Entails.trans ?_ (Entails.of_eq (payload_cell m (peer k c) none k).symm)
  show _ ⊢ slotFree (F := F) (peer k (peer k c)) k
  rw [peer_peer]

/-- Signalling the barrier at the other end of link `k`: the debt at the head of the list is settled with slot `k` of the
    device's own landing buffer. -/
theorem step_signal (n : Dev nD) (k : Fin 3) (hn : n = peer k c) (l : List (Bool × Fin 3)) {kt : PUnit → Prog (TpuEff nD τ sig (Elt F) Λ₀ .tc) α} {Q : α → sProp 𝕄} :
    iprop(records m K ∗ owed c ((false, k) :: l) ∗ dutyTok EX (cell (peer k c) none) 0 k ∗ slotFree (F := F) c k)
      ⊢ iprop((owed c l -∗ run c (kt ⟨⟩) Q) -∗ run c (.op (.semSignal (n : Thread nD τ) barS (1#32 : BitVec 32).toInt) kt) Q) := by
  subst hn
  unfold owed
  iintro ⟨#HR, ⟨%W, HO⟩, Ht, Hs⟩ Hk
  ihave #HI := (inv_of m K (peer k c) none) $$ HR
  ihave #HM := (mark_of m K (peer k c) none) $$ HR
  iapply (Rounds.wp_signal 𝒱₀ EX (sched m) (c : Thread nD τ) none (dst := (peer k c : Thread nD τ)) (κ := K (peer k c, none))
      (d := k) (by show k ∈ (sched (F := F) m).duties (cell (peer k c) none) 0; rw [duties_cell]; exact Finset.mem_univ _) ((amount_cell m (peer k c) none k).trans (by decide)) () (owe c l) rfl) $$ [HO Ht Hs]
  · isplitr; · iexact HI
    isplitl [HO]; · iexact HO
    isplitl [Ht]; · iexact Ht
    isplitl [Hs]
    · iapply (pay_bar m c k); iexact Hs
    · iexact HM
  iintro HO
  iapply Hk
  iexists W; iexact HO

/-- The wait for all three signals, while only transfers are owed: the slots at the other ends come with it. -/
theorem step_barrier {kt : PUnit → Prog (TpuEff nD τ sig (Elt F) Λ₀ .tc) α} {Q : α → sProp 𝕄} :
    iprop(records m K ∗ levAts L lv ∗ owed c sends ∗ cred (tallyAt (cell c none) () 3) ∗ atPos EX (cell c none) 0 ∅ 0)
      ⊢ iprop((iprop(owed c sends ∗ atPos EX (cell c none) (0 + 1) ∅ 0
            ∗ slotFree (F := F) (peer 0 c) 0 ∗ slotFree (F := F) (peer 1 c) 1 ∗ slotFree (F := F) (peer 2 c) 2) -∗ run c (kt ⟨⟩) Q)
          -∗ run c (.op (.semWait barS 3) kt) Q) := by
  unfold owed
  iintro ⟨#HR, #Hlev, ⟨%W, HO⟩, Hc, Hat⟩ Hk
  ihave #HI := (inv_of m K c none) $$ HR
  iapply (Rounds.wp_wait_rest_token 𝒱₀ EX (sched m) (c : Thread nD τ) none (κ := K (c, none))
      (wpE_semWait_eq 𝒱₀ (c : Thread nD τ) none Set.univ) (Set.mem_univ _) () (O := owe c sends) (W := W) (R := 0) (m := 0) (T := ∅)
      (by rw [Nat.zero_add]; exact (expect_bar m c).symm)) $$ [Hc HO Hat]
  · isplitr; · iexact HI
    isplitl [Hc]; · iexact Hc
    isplitl [HO]; · iexact HO
    isplitr; · iapply (mayWait_sends_bar c); iexact Hlev
    iexact Hat
  iintro ⟨HO, Hat, -, Hpay⟩
  ihave Hp := (show bigSep ((sched (F := F) m).duties ((c : Thread nD τ), SemLoc.reg barS) 0 \ ∅) (fun d => (sched (F := F) m).payload ((c : Thread nD τ), SemLoc.reg barS) 0 d) ⊢ _ from Entails.of_eq (round_bar m c)) $$ Hpay
  iapply Hk
  isplitl [HO]; · iexists _; iexact HO
  isplitl [Hat]; · iexact Hat
  iexact Hp

/-- The wait on a link counter once nothing is owed: what the counter's round hands over. -/
theorem step_link (x : Bool × Fin 3) (P : sProp 𝕄) (hP : pay m c (some x) 0 = P) {s : DmaSem sig} (hs : SemLoc.dma s = csem (some x)) {src dst : Memref sig .tc .vmem S2x1024 .f32}
    (hN : dst.view.dmaCredit = N) {hsrc : src.view.WordExact} {hdst : dst.view.WordExact} {kt : PUnit → Prog (TpuEff nD τ sig (Elt F) Λ₀ .tc) α} {Q : α → sProp 𝕄} :
    iprop(records m K ∗ owed c [] ∗ cred (tallyAt (cell c (some x)) () N) ∗ atPos EX (cell c (some x)) 0 ∅ 0)
      ⊢ iprop((iprop(owed c [] ∗ atPos EX (cell c (some x)) (0 + 1) ∅ 0 ∗ P) -∗ run c (kt ⟨⟩) Q)
          -∗ run c (.op (.waitDma2 s src dst hsrc hdst) kt) Q) := by
  unfold owed
  iintro ⟨#HR, ⟨%W, HO⟩, Hc, Hat⟩ Hk
  ihave #HI := (inv_of m K c (some x)) $$ HR
  unfold cell
  rw [← hs, ← hN]
  iapply (Rounds.wp_wait_rest_token 𝒱₀ EX (sched m) (c : Thread nD τ) none (κ := K (c, some x))
      (wpE_waitDma2_eq 𝒱₀ (c : Thread nD τ) none Set.univ) (Set.mem_univ _) () (O := 0) (W := W) (R := 0) (m := 0) (T := ∅)
      (by rw [Nat.zero_add, hs, expect_link, hN])) $$ [Hc HO Hat]
  · isplitr; · iexact HI
    isplitl [Hc]; · iexact Hc
    isplitl [HO]; · iexact HO
    isplitr; · rw [MayWait_zero]; iempintro
    iexact Hat
  iintro ⟨HO, Hat, -, Hpay⟩
  rw [hs]
  ihave Hp := (Entails.of_eq ((round_link m c x).trans hP)) $$ Hpay
  iapply Hk
  isplitl [HO]; · iexists _; iexact HO
  isplitl [Hat]; · iexact Hat
  iexact Hp

/-- Sending the accumulator over link `k`: the debt at the head of the list is settled with the slot it lands in. -/
theorem step_send (n : Dev nD) (k : Fin 3) (hn : n = peer k c) (l : List (Bool × Fin 3)) {s r : DmaSem sig} (hs : s = sendS k) (hr : r = recvS k)
    {dst : Memref sig .tc .vmem S2x1024 .f32} (hd : dst = slotW k)
    {hsc : (dst : Memref sig (Dev.tc n : Thread nD τ).2.kind .vmem S2x1024 .f32).view.ref.isScScratch = false}
    {hsrc : accV.view.WordExact} {hdst : dst.view.WordExact}
    {hsem : DmaTarget.Typed .vmem (.dma r) (.remote (Dev.tc n : Thread nD τ) dst (.dma s) hsc)}
    {kt : PUnit → Prog (TpuEff nD τ sig (Elt F) Λ₀ .tc) α} {Q : α → sProp 𝕄} :
    iprop(records m K ∗ owed c ((true, k) :: l) ∗ dutyTok EX (cell c (some (false, k))) 0 0 ∗ dutyTok EX (cell (peer k c) (some (true, k))) 0 0
        ∗ accShare m c k ∗ slotFree (F := F) (peer k c) k)
      ⊢ iprop((iprop(cred (tallyAt (cell c (some (false, k))) () N) ∗ owed c l) -∗ run c (kt ⟨⟩) Q)
          -∗ run c (.op (.enqueueDma accV (.remote (Dev.tc n : Thread nD τ) dst (.dma s) hsc) (.dma r) hsrc hdst hsem) kt) Q) := by
  subst hn hs hr hd
  unfold owed
  iintro ⟨#HR, ⟨%W, HO⟩, Ht, Ht', Ha, Hd⟩ Hk
  unfold slotFree
  icases Hd with ⟨%f, Hd⟩
  ihave #HI := (inv_of m K c (some (false, k))) $$ HR
  ihave #HI' := (inv_of m K (peer k c) (some (true, k))) $$ HR
  ihave #HM := (mark_of m K c (some (false, k))) $$ HR
  ihave #HM' := (mark_of m K (peer k c) (some (true, k))) $$ HR
  unfold accShare
  iapply (Rounds.wp_send_pointsTo 𝒱₀ EX (sched m) (c : Thread nD τ) none (κ₁ := K (c, some (false, k))) (κ₂ := K (peer k c, some (true, k)))
    (r₁ := 0) (r₂ := 0) (d₁ := 0) (d₂ := 0) (fd := f)
    (by show (0 : Fin 3) ∈ (sched (F := F) m).duties (cell c (some (false, k))) 0; rw [duties_cell]; exact Finset.mem_singleton_self _)
    (by show (0 : Fin 3) ∈ (sched (F := F) m).duties (cell (peer k c) (some (true, k))) 0; rw [duties_cell]; exact Finset.mem_singleton_self _)
    () () N rfl (amount_cell m c (some (false, k)) 0) (amount_cell m (peer k c) (some (true, k)) 0) (owe c l) rfl (W := W)
    (by
      refine (Entails.of_eq ?_).trans (Entails.of_eq (payload_cell m c (some (false, k)) 0).symm)
      rfl)
    (by
      refine BIBase.Entails.trans ?_ (Entails.of_eq (payload_cell m (peer k c) (some (true, k)) 0).symm)
      show _ ⊢ slotAt (peer k c) k (acc3 m (peer k (peer k c)))
      rw [peer_peer]
      unfold slotAt
      iintro H
      iexists _
      isplitr
      rotate_left
      · iexact H
      · ipureintro
        refine (View.read_write_univ _ _).trans ?_
        exact View.read_whole _ _)) $$ [HO Ht Ht' Ha Hd]
  · isplitr; · iexact HI
    isplitr; · iexact HI'
    isplitl [Ha]; · iexact Ha
    isplitl [Hd]; · iexact Hd
    isplitl [HO]; · iexact HO
    isplitl [Ht]; · iexact Ht
    isplitr; · iexact HM
    isplitl [Ht']; · iexact Ht'
    iexact HM'
  iintro ⟨Hc, HO⟩
  iapply Hk
  isplitl [Hc]; · iexact Hc
  iexists W; iexact HO

variable (M : Memref sig .tc .hbm S1024x1024 .f32) (V : Memref sig .tc .vmem S512x1024 .f32) (r : Fin 4) (j : Fin 8)

/-- Chunk `r` of a scratch buffer once the rows of `M` have landed in it. -/
def landed (f : Buf (Elt F) (M.view.loc (c : Thread nD τ))) (g : Buf (Elt F) (V.view.loc (c : Thread nD τ))) : sProp 𝕄 :=
  V.view.loc (c : Thread nD τ) ↦[chunkSet V r]{fullShare} ((dstW V r).view.write (Elt F) g ((srcW M c r).view.read (Elt F) f) Finset.univ)

/-- The local transfer of chunk `r` on its way. -/
def moving (f : Buf (Elt F) (M.view.loc (c : Thread nD τ))) (g : Buf (Elt F) (V.view.loc (c : Thread nD τ))) : sProp 𝕄 :=
  Transfers.Flight EC (c : Thread nD τ) (.dma (inS j)) () ((dstW V r).view.amount (.dma (inS j)))
    iprop(landed c M V r f g ∗ (M.view.loc (c : Thread nD τ) ↦[rowSet M c r]{fullShare} f))

/-- Starting it; -/
theorem step_copy {src : Memref sig .tc .hbm S128x1024 .f32} {dst : Memref sig .tc .vmem S128x1024 .f32} {s : DmaSem sig}
    (hS : src = srcW M c r) (hD : dst = dstW V r) (hs : s = inS j)
    {hsrc : src.view.WordExact} {hdst : dst.view.WordExact} {hsem}
    {kt : PUnit → Prog (TpuEff nD τ sig (Elt F) Λ₀ .tc) α} {Q : α → sProp 𝕄} (f : Buf (Elt F) (M.view.loc (c : Thread nD τ))) (g : Buf (Elt F) (V.view.loc (c : Thread nD τ))) :
    iprop((M.view.loc (c : Thread nD τ) ↦[rowSet M c r]{fullShare} f) ∗ (V.view.loc (c : Thread nD τ) ↦[chunkSet V r]{fullShare} g) ∗ semVal ((c : Thread nD τ), .dma (inS j)) 0)
      ⊢ iprop((moving c M V r j f g -∗ run c (kt ⟨⟩) Q) -∗ run c (.op (.enqueueDma src (.here dst) (.dma s) hsrc hdst hsem) kt) Q) := by
  subst hS hD hs
  unfold moving landed
  iintro ⟨H1, H2, H3⟩ Hk
  iapply (Transfers.wp_dmaLocal EC 𝒱₀ (c : Thread nD τ) none (q := fullShare) (fs := f) (fd := g) (src := srcW M c r) (dst := dstW V r) (sm := .dma (inS j)) (Sd := chunkSet V r) () ((dstW V r).view.amount (.dma (inS j))) rfl (View.dmaCredit_pos _ (Shape.numel_pos (by decide))) (Finset.Subset.refl _)) $$ [H1 H2 H3]
  · isplitl [H1]; · iexact H1
    isplitl [H2]; · iexact H2
    iexact H3
  iintro H
  iapply Hk
  iexact H

/-- and waiting for it. -/
theorem step_copied {src : Memref sig .tc .hbm S128x1024 .f32} {dst : Memref sig .tc .vmem S128x1024 .f32} {s : DmaSem sig}
    (hD : dst = dstW V r) (hs : s = inS j) {hsrc : src.view.WordExact} {hdst : dst.view.WordExact} {kt : PUnit → Prog (TpuEff nD τ sig (Elt F) Λ₀ .tc) α} {Q : α → sProp 𝕄}
    (f : Buf (Elt F) (M.view.loc (c : Thread nD τ))) (g : Buf (Elt F) (V.view.loc (c : Thread nD τ))) :
    iprop(levAts L lv ∗ moving c M V r j f g ∗ owed c sends)
      ⊢ iprop((iprop(landed c M V r f g ∗ (M.view.loc (c : Thread nD τ) ↦[rowSet M c r]{fullShare} f) ∗ semVal ((c : Thread nD τ), .dma (inS j)) 0 ∗ owed c sends) -∗ run c (kt ⟨⟩) Q)
          -∗ run c (.op (.waitDma2 s src dst hsrc hdst) kt) Q) := by
  subst hD hs
  unfold moving owed
  iintro ⟨#Hlev, Hf, ⟨%W, HO⟩⟩ Hk
  iapply (Transfers.wp_waitLocalO EC 𝒱₀ (c : Thread nD τ) none () rfl (W := W)) $$ [Hf HO]
  · isplitl [Hf]; · iexact Hf
    isplitl [HO]; · iexact HO
    iapply (mayWait_sends_in c j); iexact Hlev
  iintro ⟨⟨Hl, Hm⟩, Hv, HO⟩
  iapply Hk
  isplitl [Hl]; · iexact Hl
  isplitl [Hm]; · iexact Hm
  isplitl [Hv]; · iexact Hv
  iexists _; iexact HO

/-- Loading a chunk that has landed. -/
theorem step_chunk {h} {kt : (S128x1024.Idx → Elt F .f32) → Prog (TpuEff nD τ sig (Elt F) Λ₀ .tc) α} {Q : α → sProp 𝕄}
    (f : Buf (Elt F) (M.view.loc (c : Thread nD τ))) (g : Buf (Elt F) (V.view.loc (c : Thread nD τ))) :
    landed c M V r f g ⊢ iprop((landed c M V r f g -∗ run c (kt ((srcW M c r).view.read (Elt F) f)) Q) -∗ run c (.op (.load V (chunkOf r).toLoadRect h) kt) Q) := by
  unfold landed
  iintro H Hk
  iapply (wp_load 𝒱₀ (c : Thread nD τ) none Set.univ (m := V) (r := (chunkOf r).toLoadRect) (S := chunkSet V r)
    (by show _ ⊆ (V.view.slice (chunkOf r)).set; rw [View.set_slice]; exact Finset.Subset.refl _)) $$ H
  iintro H
  rw [read_chunk]
  iapply Hk; iexact H

/-- Loading the whole accumulator. -/
theorem step_acc {h} {kt : Vec F S2x1024 .f32 → Prog (TpuEff nD τ sig (Elt F) Λ₀ .tc) α} {Q : α → sProp 𝕄} (f : Buf (Elt F) (accV.view.loc (c : Thread nD τ))) :
    (accV.view.loc (c : Thread nD τ) ↦{fullShare} f : sProp 𝕄)
      ⊢ iprop(((accV.view.loc (c : Thread nD τ) ↦{fullShare} f) -∗ run c (kt f) Q) -∗ run c (.op (.load accV all2.toLoadRect h) kt) Q) := by
  iintro H Hk
  iapply (wp_load 𝒱₀ (c : Thread nD τ) none Set.univ (m := accV) (r := all2.toLoadRect) (S := Finset.univ) (Finset.subset_univ _)) $$ H
  iintro H
  rw [read_acc]
  iapply Hk; iexact H
/-- Storing it. -/
theorem step_keep {w : Vec F S2x1024 .f32} {h h'} {kt : PUnit → Prog (TpuEff nD τ sig (Elt F) Λ₀ .tc) α} {Q : α → sProp 𝕄} (f : Buf (Elt F) (accV.view.loc (c : Thread nD τ))) :
    (accV.view.loc (c : Thread nD τ) ↦{fullShare} f : sProp 𝕄)
      ⊢ iprop(((accV.view.loc (c : Thread nD τ) ↦{fullShare} (w : Buf (Elt F) (accV.view.loc (c : Thread nD τ)))) -∗ run c (kt ⟨⟩) Q)
        -∗ run c (.op (.store accV all2 w Finset.univ h h') kt) Q) := by
  iintro H Hk
  iapply (wp_store 𝒱₀ (c : Thread nD τ) none Set.univ (m := accV) (r := all2) (Mk := Finset.univ) (Finset.subset_univ _)) $$ H
  iintro H
  rw [write_acc]
  iapply Hk; iexact H

/-- Loading a slot of the landing buffer. -/
theorem step_slot (k : Fin 3) (v : Vec F S2x1024 .f32) {h} {kt : (S1x2x1024.Idx → Elt F .f32) → Prog (TpuEff nD τ sig (Elt F) Λ₀ .tc) α} {Q : α → sProp 𝕄} :
    slotAt c k v ⊢ iprop((slotAt c k v -∗ run c (kt (asSlot v)) Q) -∗ run c (.op (.load comV (slotOf k).toLoadRect h) kt) Q) := by
  unfold slotAt
  iintro ⟨%f, %hf, H⟩ Hk
  iapply (wp_load 𝒱₀ (c : Thread nD τ) none Set.univ (m := comV) (r := (slotOf k).toLoadRect) (S := (slotW k).view.set)
    (by show _ ⊆ slotSet k; rw [slotSet_eq]; exact ((View.set_slice (v := comV.view) (slotOf k)).symm.trans (View.set_slice_whole _ _)).le)) $$ H
  iintro H
  rw [read_slot k f v hf]
  iapply Hk; iexists f; isplitr; · (ipureintro; exact hf)
  iexact H

/-- A filled landing slot is a slot free to be written. -/
theorem slot_forget (k : Fin 3) (v : Vec F S2x1024 .f32) : slotAt c k v ⊢ slotFree (F := F) c k := by
  unfold slotAt slotFree
  iintro ⟨%f, -, H⟩
  iexists f; iexact H

/-- Closing a cell after its round: its counter is at zero. -/
theorem step_close (p : Part) : iprop(records m K ∗ atPos EX (cell c p) (0 + 1) ∅ 0) ⊢ iprop(|={Set.univ}=> semVal (cell c p) 0) := by
  iintro ⟨#HR, Hat⟩
  ihave #HI := (inv_of m K c p) $$ HR
  iapply (Rounds.cell_close EX (sched m) (Set.mem_univ (K (c, p))) (fun h => h) (R := 0 + 1) (duties_after m (cell c p)))
  isplitr; · iexact HI
  iexact Hat

/-- The landing chunks of a scratch buffer, whole again. -/
theorem landed_join (hV : V.view.set = Finset.univ) (f : Buf (Elt F) (M.view.loc (c : Thread nD τ))) (g : Buf (Elt F) (V.view.loc (c : Thread nD τ))) :
    iprop(landed c M V 0 f g ∗ landed c M V 1 f g ∗ landed c M V 2 f g ∗ landed c M V 3 f g)
      ⊢ (iprop(∃ f, V.view.loc (c : Thread nD τ) ↦{fullShare} f) : sProp 𝕄) := by
  refine BIBase.Entails.trans ?_ (chunks_join V hV c g)
  rw [bigSep_four]
  unfold landed
  iintro ⟨H0, H1, H2, H3⟩
  isplitl [H0]; · iexists _; iexact H0
  isplitl [H1]; · iexists _; iexact H1
  isplitl [H2]; · iexists _; iexact H2
  iexists _; iexact H3

end Steps

end Cert.NormBwd

end
-- ==== Proof.Sound.lean ====
/-
# One device's kernel body, run to its end

The steps put together in program order.
-/
module

public import proofs.«01_k».proof.Proof.Body

@[expose] public section

noncomputable section

namespace Cert.NormBwd

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- The counters of the eight copies in, written out. -/
theorem inSems_eq (c : Dev nD) : (inSems c : sProp 𝕄) = iprop(semVal ((c : Thread nD τ), .dma (inS 0)) 0 ∗ semVal ((c : Thread nD τ), .dma (inS 1)) 0
    ∗ semVal ((c : Thread nD τ), .dma (inS 2)) 0 ∗ semVal ((c : Thread nD τ), .dma (inS 3)) 0 ∗ semVal ((c : Thread nD τ), .dma (inS 4)) 0
    ∗ semVal ((c : Thread nD τ), .dma (inS 5)) 0 ∗ semVal ((c : Thread nD τ), .dma (inS 6)) 0 ∗ semVal ((c : Thread nD τ), .dma (inS 7)) 0) :=
  bigSep_univ_eq_bigSepL [(0 : Fin 8), 1, 2, 3, 4, 5, 6, 7] (by decide) (by decide) _

set_option maxHeartbeats 1600000 in
/-- The body, from what the launch hands a device to what it hands back. -/
theorem sound_body (K : Dev nD × Part → ℕ) (c : Dev nD) (Kt : PUnit → sProp 𝕄) :
    iprop(bodyPre m K c ∗ (bodyPost m c -∗ Kt ⟨⟩)) ⊢ wp frame (wpE (defs₀ (F := F)) 𝒱₀ c none) Set.univ
        (cc0_body (Memref.whole main_arg0) (Memref.isWhole_whole _) (Memref.whole main_arg1) (Memref.isWhole_whole _) (Memref.whole main_arg2) (Memref.isWhole_whole _)
          (Memref.whole cc0_stg0_0) (Memref.isWhole_whole _) (Memref.whole cc0_scratch0) (Memref.isWhole_whole _) (Memref.whole cc0_scratch1) (Memref.isWhole_whole _)
          (Memref.whole cc0_scratch2) (Memref.isWhole_whole _) (Memref.whole cc0_scratch3) (Memref.isWhole_whole _) cc0_scratch4 cc0_scratch5 cc0_scratch6) Kt := by
  simp only [cc0_body_eq_skeleton]; unfold cc0_body_skel
  simp only [k0_part1_eq_skeleton]
  unfold k0_part1_skel
  simp only [semSignalWord, semWaitWord, Prog.lift, Prog.bind_op, Prog.bind_ret, Prog.pure_eq_ret, wp_deviceId]
  unfold bodyPre ghost posOf argsAt scratch
  rw [inSems_eq, bigSep_three, bigSep_three, bigSep_three]
  unfold duesOf
  iintro ⟨⟨⟨#HR, ⟨HaB, ⟨HaS0, HaV0⟩, ⟨HaS1, HaV1⟩, ⟨HaS2, HaV2⟩⟩, ⟨⟨HtB0, HtS0, HtV0⟩, ⟨HtB1, HtS1, HtV1⟩, ⟨HtB2, HtS2, HtV2⟩⟩,
    ⟨Hv0, Hv1, Hv2, Hv3, Hv4, Hv5, Hv6, Hv7⟩⟩, ⟨HcB, HcV0, HcV1, HcV2⟩, #Hlev, ⟨Hx, Hd⟩, ⟨⟨%gx, Hxs⟩, ⟨%gd, Hds⟩, ⟨%ga, Hacc⟩, ⟨%gc, Hcom⟩⟩, HO, ⟨%go, Hout⟩⟩, Hk⟩
  -- the buffers in their pieces
  ihave H' := (rows_split xH c (m ((c : Thread nD τ).loc main_arg0))).1 $$ Hx
  rw [bigSep_four]
  icases H' with ⟨⟨Hx0, Hx1, Hx2, Hx3⟩, Hxr⟩
  ihave H' := (rows_split dH c (m ((c : Thread nD τ).loc main_arg1))).1 $$ Hd
  rw [bigSep_four]
  icases H' with ⟨⟨Hd0, Hd1, Hd2, Hd3⟩, Hdr⟩
  ihave H' := (Entails.of_eq ((chunks_split xV (View.set_whole _) c gx).trans (bigSep_four _))) $$ Hxs
  icases H' with ⟨Hxs0, Hxs1, Hxs2, Hxs3⟩
  ihave H' := (Entails.of_eq ((chunks_split dV (View.set_whole _) c gd).trans (bigSep_four _))) $$ Hds
  icases H' with ⟨Hds0, Hds1, Hds2, Hds3⟩
  ihave H' := (slots_split c gc) $$ Hcom
  icases H' with ⟨Hc0, Hc1, Hc2⟩
  -- the three signals
  iapply (step_signal m K c _ 0 (dev1_peer c) [(false, 1), (false, 2), (true, 0), (true, 1), (true, 2)]) $$ [HO HtB0 Hc0]
  · iframe HR HO HtB0 Hc0
  iintro HO
  iapply (step_signal m K c _ 1 (dev2_peer c) [(false, 2), (true, 0), (true, 1), (true, 2)]) $$ [HO HtB1 Hc1]
  · iframe HR HO HtB1 Hc1
  iintro HO
  iapply (step_signal m K c _ 2 (dev3_peer c) [(true, 0), (true, 1), (true, 2)]) $$ [HO HtB2 Hc2]
  · iframe HR HO HtB2 Hc2
  iintro HO
  -- the eight local transfers
  iapply (step_copy c xH xV 0 0 rfl rfl rfl (m ((c : Thread nD τ).loc main_arg0)) gx) $$ [Hx0 Hxs0 Hv0]
  · iframe Hx0 Hxs0 Hv0
  iintro Hf0
  simp only [k0_part2_eq_skeleton]; unfold k0_part2_skel
  simp only [semSignalWord, semWaitWord, Prog.lift, Prog.bind_op, Prog.bind_ret, Prog.pure_eq_ret]
  iapply (step_copy c dH dV 0 1 rfl rfl rfl (m ((c : Thread nD τ).loc main_arg1)) gd) $$ [Hd0 Hds0 Hv1]
  · iframe Hd0 Hds0 Hv1
  iintro Hf1
  iapply (step_copy c xH xV 1 2 rfl rfl rfl (m ((c : Thread nD τ).loc main_arg0)) gx) $$ [Hx1 Hxs1 Hv2]
  · iframe Hx1 Hxs1 Hv2
  iintro Hf2
  iapply (step_copy c dH dV 1 3 rfl rfl rfl (m ((c : Thread nD τ).loc main_arg1)) gd) $$ [Hd1 Hds1 Hv3]
  · iframe Hd1 Hds1 Hv3
  iintro Hf3
  iapply (step_copy c xH xV 2 4 rfl rfl rfl (m ((c : Thread nD τ).loc main_arg0)) gx) $$ [Hx2 Hxs2 Hv4]
  · iframe Hx2 Hxs2 Hv4
  iintro Hf4
  iapply (step_copy c dH dV 2 5 rfl rfl rfl (m ((c : Thread nD τ).loc main_arg1)) gd) $$ [Hd2 Hds2 Hv5]
  · iframe Hd2 Hds2 Hv5
  iintro Hf5
  iapply (step_copy c xH xV 3 6 rfl rfl rfl (m ((c : Thread nD τ).loc main_arg0)) gx) $$ [Hx3 Hxs3 Hv6]
  · iframe Hx3 Hxs3 Hv6
  iintro Hf6
  simp only [k0_part3_eq_skeleton]; unfold k0_part3_skel
  simp only [semSignalWord, semWaitWord, Prog.lift, Prog.bind_op, Prog.bind_ret, Prog.pure_eq_ret]
  iapply (step_copy c dH dV 3 7 rfl rfl rfl (m ((c : Thread nD τ).loc main_arg1)) gd) $$ [Hd3 Hds3 Hv7]
  · iframe Hd3 Hds3 Hv7
  iintro Hf7
  -- chunk 0
  iapply (step_copied c xH xV 0 0 rfl rfl (m ((c : Thread nD τ).loc main_arg0)) gx) $$ [Hf0 HO]
  · iframe Hlev Hf0 HO
  iintro ⟨Hxs0, Hx0, Hv0, HO⟩
  iapply (step_copied c dH dV 0 1 rfl rfl (m ((c : Thread nD τ).loc main_arg1)) gd) $$ [Hf1 HO]
  · iframe Hlev Hf1 HO
  iintro ⟨Hds0, Hd0, Hv1, HO⟩
  iapply (step_chunk c xH xV 0 (m ((c : Thread nD τ).loc main_arg0)) gx) $$ Hxs0; iintro Hxs0
  iapply (step_chunk c dH dV 0 (m ((c : Thread nD τ).loc main_arg1)) gd) $$ Hds0; iintro Hds0
  simp only [semSignalWord, semWaitWord, Prog.lift, Prog.bind_op, Prog.bind_ret, Prog.pure_eq_ret]
  simp only [k0_part4_eq_skeleton]; unfold k0_part4_skel
  simp only [semSignalWord, semWaitWord, Prog.lift, Prog.bind_op, Prog.bind_ret, Prog.pure_eq_ret]
  iapply (step_acc c ga) $$ Hacc; iintro Hacc
  iapply (step_keep c (w := acc0 m c) ga) $$ Hacc; iintro Hacc
  -- chunk 1
  iapply (step_copied c xH xV 1 2 rfl rfl (m ((c : Thread nD τ).loc main_arg0)) gx) $$ [Hf2 HO]
  · iframe Hlev Hf2 HO
  iintro ⟨Hxs1, Hx1, Hv2, HO⟩
  iapply (step_copied c dH dV 1 3 rfl rfl (m ((c : Thread nD τ).loc main_arg1)) gd) $$ [Hf3 HO]
  · iframe Hlev Hf3 HO
  iintro ⟨Hds1, Hd1, Hv3, HO⟩
  iapply (step_chunk c xH xV 1 (m ((c : Thread nD τ).loc main_arg0)) gx) $$ Hxs1; iintro Hxs1
  iapply (step_chunk c dH dV 1 (m ((c : Thread nD τ).loc main_arg1)) gd) $$ Hds1; iintro Hds1
  simp only [semSignalWord, semWaitWord, Prog.lift, Prog.bind_op, Prog.bind_ret, Prog.pure_eq_ret]
  simp only [k0_part5_eq_skeleton]; unfold k0_part5_skel
  simp only [semSignalWord, semWaitWord, Prog.lift, Prog.bind_op, Prog.bind_ret, Prog.pure_eq_ret]
  iapply (step_acc c (acc0 m c)) $$ Hacc; iintro Hacc
  iapply (step_acc c (acc0 m c)) $$ Hacc; iintro Hacc
  iapply (step_keep c (w := acc1 m c) (acc0 m c)) $$ Hacc; iintro Hacc
  -- chunk 2
  iapply (step_copied c xH xV 2 4 rfl rfl (m ((c : Thread nD τ).loc main_arg0)) gx) $$ [Hf4 HO]
  · iframe Hlev Hf4 HO
  iintro ⟨Hxs2, Hx2, Hv4, HO⟩
  iapply (step_copied c dH dV 2 5 rfl rfl (m ((c : Thread nD τ).loc main_arg1)) gd) $$ [Hf5 HO]
  · iframe Hlev Hf5 HO
  iintro ⟨Hds2, Hd2, Hv5, HO⟩
  iapply (step_chunk c xH xV 2 (m ((c : Thread nD τ).loc main_arg0)) gx) $$ Hxs2; iintro Hxs2
  iapply (step_chunk c dH dV 2 (m ((c : Thread nD τ).loc main_arg1)) gd) $$ Hds2; iintro Hds2
  simp only [semSignalWord, semWaitWord, Prog.lift, Prog.bind_op, Prog.bind_ret, Prog.pure_eq_ret]
  simp only [k0_part6_eq_skeleton]; unfold k0_part6_skel
  simp only [semSignalWord, semWaitWord, Prog.lift, Prog.bind_op, Prog.bind_ret, Prog.pure_eq_ret]
  iapply (step_acc c (acc1 m c)) $$ Hacc; iintro Hacc
  iapply (step_acc c (acc1 m c)) $$ Hacc; iintro Hacc
  iapply (step_keep c (w := acc2 m c) (acc1 m c)) $$ Hacc; iintro Hacc
  -- chunk 3
  iapply (step_copied c xH xV 3 6 rfl rfl (m ((c : Thread nD τ).loc main_arg0)) gx) $$ [Hf6 HO]
  · iframe Hlev Hf6 HO
  iintro ⟨Hxs3, Hx3, Hv6, HO⟩
  iapply (step_copied c dH dV 3 7 rfl rfl (m ((c : Thread nD τ).loc main_arg1)) gd) $$ [Hf7 HO]
  · iframe Hlev Hf7 HO
  iintro ⟨Hds3, Hd3, Hv7, HO⟩
  iapply (step_chunk c xH xV 3 (m ((c : Thread nD τ).loc main_arg0)) gx) $$ Hxs3; iintro Hxs3
  iapply (step_chunk c dH dV 3 (m ((c : Thread nD τ).loc main_arg1)) gd) $$ Hds3; iintro Hds3
  simp only [semSignalWord, semWaitWord, Prog.lift, Prog.bind_op, Prog.bind_ret, Prog.pure_eq_ret]
  simp only [k0_part7_eq_skeleton]; unfold k0_part7_skel
  simp only [semSignalWord, semWaitWord, Prog.lift, Prog.bind_op, Prog.bind_ret, Prog.pure_eq_ret]
  iapply (step_acc c (acc2 m c)) $$ Hacc; iintro Hacc
  iapply (step_acc c (acc2 m c)) $$ Hacc; iintro Hacc
  iapply (step_keep c (w := acc3 m c) (acc2 m c)) $$ Hacc; iintro Hacc
  -- the barrier wait, then the accumulator out over the three links
  iapply (step_barrier m K c) $$ [HO HcB HaB]
  · iframe HR Hlev HO HcB HaB
  iintro ⟨HO, HaB, Hd0', Hd1', Hd2'⟩
  ihave H' := (acc_shares m c).1 $$ Hacc
  icases H' with ⟨Hs0, Hs1, Hs2⟩
  iapply (step_send m K c _ 0 (dev4_peer c) [(true, 1), (true, 2)] rfl rfl rfl) $$ [HO HtS0 HtV0 Hs0 Hd0']
  · iframe HR HO HtS0 HtV0 Hs0 Hd0'
  iintro ⟨HcS0, HO⟩
  simp only [k0_part8_eq_skeleton]; unfold k0_part8_skel
  simp only [semSignalWord, semWaitWord, Prog.lift, Prog.bind_op, Prog.bind_ret, Prog.pure_eq_ret]
  iapply (step_send m K c _ 1 (dev5_peer c) [(true, 2)] rfl rfl rfl) $$ [HO HtS1 HtV1 Hs1 Hd1']
  · iframe HR HO HtS1 HtV1 Hs1 Hd1'
  iintro ⟨HcS1, HO⟩
  iapply (step_send m K c _ 2 (dev6_peer c) [] rfl rfl rfl) $$ [HO HtS2 HtV2 Hs2 Hd2']
  · iframe HR HO HtS2 HtV2 Hs2 Hd2'
  iintro ⟨HcS2, HO⟩
  iapply (step_link m K c (false, 0) (accShare m c 0) rfl (s := sendS 0) (dst := accV) rfl rfl) $$ [HO HcS0 HaS0]
  · iframe HR HO HcS0 HaS0
  iintro ⟨HO, HaS0, Hs0⟩
  iapply (step_link m K c (true, 0) (slotAt c 0 (acc3 m (peer 0 c))) rfl (s := recvS 0) (dst := slotW 0) rfl rfl) $$ [HO HcV0 HaV0]
  · iframe HR HO HcV0 HaV0
  iintro ⟨HO, HaV0, Hc0⟩
  simp only [k0_part9_eq_skeleton]; unfold k0_part9_skel
  simp only [semSignalWord, semWaitWord, Prog.lift, Prog.bind_op, Prog.bind_ret, Prog.pure_eq_ret]
  iapply (step_link m K c (false, 1) (accShare m c 1) rfl (s := sendS 1) (dst := accV) rfl rfl) $$ [HO HcS1 HaS1]
  · iframe HR HO HcS1 HaS1
  iintro ⟨HO, HaS1, Hs1⟩
  iapply (step_link m K c (true, 1) (slotAt c 1 (acc3 m (peer 1 c))) rfl (s := recvS 1) (dst := slotW 1) rfl rfl) $$ [HO HcV1 HaV1]
  · iframe HR HO HcV1 HaV1
  iintro ⟨HO, HaV1, Hc1⟩
  iapply (step_link m K c (false, 2) (accShare m c 2) rfl (s := sendS 2) (dst := accV) rfl rfl) $$ [HO HcS2 HaS2]
  · iframe HR HO HcS2 HaS2
  iintro ⟨HO, HaS2, Hs2⟩
  iapply (step_link m K c (true, 2) (slotAt c 2 (acc3 m (peer 2 c))) rfl (s := recvS 2) (dst := slotW 2) rfl rfl) $$ [HO HcV2 HaV2]
  · iframe HR HO HcV2 HaV2
  iintro ⟨HO, HaV2, Hc2⟩
  -- the sum of the four accumulators
  ihave Hacc := (acc_shares m c).2 $$ [Hs0 Hs1 Hs2]
  · isplitl [Hs0]; · iexact Hs0
    isplitl [Hs1]; · iexact Hs1
    iexact Hs2
  iapply (step_acc c (acc3 m c)) $$ Hacc; iintro Hacc
  iapply (step_slot c 0 (acc3 m (peer 0 c))) $$ Hc0; iintro Hc0
  simp only [semSignalWord, semWaitWord, Prog.lift, Prog.bind_op, Prog.bind_ret, Prog.pure_eq_ret]
  iapply (step_slot c 1 (acc3 m (peer 1 c))) $$ Hc1; iintro Hc1
  iapply (step_slot c 2 (acc3 m (peer 2 c))) $$ Hc2; iintro Hc2
  iapply (wp_load 𝒱₀ (c : Thread nD τ) none Set.univ (m := outV) (Finset.subset_univ _)) $$ Hout; iintro Hout
  iapply (wp_store 𝒱₀ (c : Thread nD τ) none Set.univ (m := outV) (r := all2) (Mk := Finset.univ) (Finset.subset_univ _)) $$ Hout; iintro Hout
  rw [write_out]
  -- the seven cells close
  imod (step_close m K c none) $$ [HaB] with HzB
  · iframe HR HaB
  imod (step_close m K c (some (false, 0))) $$ [HaS0] with HzS0
  · iframe HR HaS0
  imod (step_close m K c (some (true, 0))) $$ [HaV0] with HzV0
  · iframe HR HaV0
  imod (step_close m K c (some (false, 1))) $$ [HaS1] with HzS1
  · iframe HR HaS1
  imod (step_close m K c (some (true, 1))) $$ [HaV1] with HzV1
  · iframe HR HaV1
  imod (step_close m K c (some (false, 2))) $$ [HaS2] with HzS2
  · iframe HR HaS2
  imod (step_close m K c (some (true, 2))) $$ [HaV2] with HzV2
  · iframe HR HaV2
  rw [wp_ret]; imodintro
  iapply Hk
  unfold bodyPost after₀ closed argsAt scratch staged
  rw [inSems_eq, bigSep_three]
  isplitr [HO Hout]
  · isplitl [HzB HzS0 HzV0 HzS1 HzV1 HzS2 HzV2 Hv0 Hv1 Hv2 Hv3 Hv4 Hv5 Hv6 Hv7]
    · iframe HzB HzS0 HzV0 HzS1 HzV1 HzS2 HzV2 Hv0 Hv1 Hv2 Hv3 Hv4 Hv5 Hv6 Hv7
    isplitl [Hx0 Hx1 Hx2 Hx3 Hxr Hd0 Hd1 Hd2 Hd3 Hdr]
    · isplitl [Hx0 Hx1 Hx2 Hx3 Hxr]
      · iapply (rows_split xH c (m ((c : Thread nD τ).loc main_arg0))).2
        rw [bigSep_four]
        iframe Hx0 Hx1 Hx2 Hx3 Hxr
      iapply (rows_split dH c (m ((c : Thread nD τ).loc main_arg1))).2
      rw [bigSep_four]
      iframe Hd0 Hd1 Hd2 Hd3 Hdr
    isplitl [Hxs0 Hxs1 Hxs2 Hxs3]
    · iapply (landed_join c xH xV (View.set_whole _) (m ((c : Thread nD τ).loc main_arg0)) gx)
      iframe Hxs0 Hxs1 Hxs2 Hxs3
    isplitl [Hds0 Hds1 Hds2 Hds3]
    · iapply (landed_join c dH dV (View.set_whole _) (m ((c : Thread nD τ).loc main_arg1)) gd)
      iframe Hds0 Hds1 Hds2 Hds3
    isplitl [Hacc]; · iexists _; iexact Hacc
    iapply (slots_join c)
    isplitl [Hc0]; · iapply (slot_forget c 0 _); iexact Hc0
    isplitl [Hc1]; · iapply (slot_forget c 1 _); iexact Hc1
    iapply (slot_forget c 2 _); iexact Hc2
  isplitl [HO]; · iexact HO
  iexists _
  isplitr; · (ipureintro; rfl)
  iexact Hout

end Cert.NormBwd

end
-- ==== Proof.Run.lean ====
/-
# The launch and the run

The body as the pipeline calls it, the launch's ghost resources (every cell's round, every duty's token), their
regrouping so that each device holds the tokens of the duties it pays, the launch credit, and the run of `main` on all
four devices from any memory.
-/
module

public import proofs.«01_k».proof.Proof.Sound
public import Idealize.ShloMosaic.Lib.Pipeline.CollectiveSegs
public import Idealize.ShloMosaic.Lib.Pipeline.ValueKit.Geometry

@[expose] public section

noncomputable section

namespace Cert.NormBwd

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The body as the pipeline calls it -/

/-- Owning a whole buffer, written as owning its every entry. -/
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

set_option maxRecDepth 4000 in
/-- What the pipeline asks of the body on device `c`. -/
theorem body_obligation (c : Dev nD) : BodyObligation (dats (F := F) m 0 c) (defs₀ (F := F)) 𝒱₀ () Set.univ := fun t => by
  rw [fin_N0 t, bigSep_W0, bigSep_W0]
  simp only [owns_whole_eq]
  show iprop(before₀ m c ∗ (dats m 0 c).owesAt () t0_0.castSucc ∗ (∃ d, staged c ((dats m 0 c).before (0 : Fin 1) t0_0 d)))
    ⊢ wp frame (wpE (defs₀ (F := F)) 𝒱₀ c none) Set.univ
        (cc0_body (Memref.whole main_arg0) (Memref.isWhole_whole _) (Memref.whole main_arg1) (Memref.isWhole_whole _) (Memref.whole main_arg2) (Memref.isWhole_whole _)
          (Memref.whole cc0_stg0_0) (Memref.isWhole_whole _) (Memref.whole cc0_scratch0) (Memref.isWhole_whole _) (Memref.whole cc0_scratch1) (Memref.isWhole_whole _)
          (Memref.whole cc0_scratch2) (Memref.isWhole_whole _) (Memref.whole cc0_scratch3) (Memref.isWhole_whole _) cc0_scratch4 cc0_scratch5 cc0_scratch6)
        (fun _ => iprop(after₀ m c ∗ (dats m 0 c).owesAt () t0_0.succ ∗ staged c (outAt m c)))
  unfold before₀ start Dat.owesAt Pipeline.owesWithin
  rw [show (dats m 0 c).owed t0_0.castSucc = owe c debts from rfl, show (dats m 0 c).owed t0_0.succ = 0 from rfl]
  iintro ⟨⟨⟨⟨%K, Hg⟩, Hcr, Hlev, Ha⟩, Hsc⟩, ⟨%W, %hW, HO⟩, ⟨%d, %g, %hg, Hout⟩⟩
  iapply (sound_body m K c _)
  unfold bodyPre bodyPost owed
  isplitl
  · isplitl [Hg]; · iexact Hg
    isplitl [Hcr]; · iexact Hcr
    isplitl [Hlev]; · iexact Hlev
    isplitl [Ha]; · iexact Ha
    isplitl [Hsc]; · iexact Hsc
    isplitl [HO]; · iexists W; iexact HO
    iexists g; iexact Hout
  iintro ⟨H1, ⟨%W', HO⟩, H3⟩
  isplitl [H1]; · iexact H1
  isplitl [HO]
  · iexists W'
    isplitr; · (ipureintro; exact fun _ _ => Or.inl trivial)
    iexact HO
  iexact H3

/-! ## The kernel's own counters -/

/-- The fourteen counters the kernel allocates: eight local, three send, three receive. -/
def osem : Fin 14 → SemLoc sig := fun i => .dma (⟨1 + i.val, by have := i.isLt; show 1 + i.val < 15; omega⟩ : DmaSem sig)

/-- The body's own semaphores are those the call scopes and does not stage with. -/
theorem ownSemFacts : Pipeline.OwnSemFacts cfg0.spec osem := by decide

abbrev own0 (c : Dev nD) : sProp 𝕄 := Pipeline.ownSems0 (Ix := Unit) (Name := ℕ) (U := UU) (Lvl := ℕ) (Val := Elt F) (τ := τ) osem c

/-- The link counters of a device at zero. -/
def links0 (c : Dev nD) : sProp 𝕄 :=
  bigSep Finset.univ fun k : Fin 3 => iprop(semVal (cell c (some (false, k))) 0 ∗ semVal (cell c (some (true, k))) 0)

/-- A device's own counters are those of its copies in and those of its links. -/
theorem own0_eq (c : Dev nD) : (own0 c : sProp 𝕄) ⊣⊢ iprop(inSems c ∗ links0 c) := by
  unfold links0
  rw [own0, Pipeline.ownSems0_eq_of_list c osem [0, 1, 2, 3, 4, 5, 6, 7, 8, 9, 10, 11, 12, 13] (by decide) (by decide), inSems_eq, bigSep_three]
  refine ⟨?_, ?_⟩
  · show iprop(semVal ((c : Thread nD τ), .dma (inS 0)) 0 ∗ semVal ((c : Thread nD τ), .dma (inS 1)) 0 ∗ semVal ((c : Thread nD τ), .dma (inS 2)) 0
      ∗ semVal ((c : Thread nD τ), .dma (inS 3)) 0 ∗ semVal ((c : Thread nD τ), .dma (inS 4)) 0 ∗ semVal ((c : Thread nD τ), .dma (inS 5)) 0
      ∗ semVal ((c : Thread nD τ), .dma (inS 6)) 0 ∗ semVal ((c : Thread nD τ), .dma (inS 7)) 0
      ∗ semVal (cell c (some (false, 0))) 0 ∗ semVal (cell c (some (false, 1))) 0 ∗ semVal (cell c (some (false, 2))) 0
      ∗ semVal (cell c (some (true, 0))) 0 ∗ semVal (cell c (some (true, 1))) 0 ∗ semVal (cell c (some (true, 2))) 0) ⊢ _
    iintro ⟨H0, H1, H2, H3, H4, H5, H6, H7, S0, S1, S2, V0, V1, V2⟩
    iframe H0 H1 H2 H3 H4 H5 H6 H7 S0 S1 S2 V0 V1 V2
  · show _ ⊢ iprop(semVal ((c : Thread nD τ), .dma (inS 0)) 0 ∗ semVal ((c : Thread nD τ), .dma (inS 1)) 0 ∗ semVal ((c : Thread nD τ), .dma (inS 2)) 0
      ∗ semVal ((c : Thread nD τ), .dma (inS 3)) 0 ∗ semVal ((c : Thread nD τ), .dma (inS 4)) 0 ∗ semVal ((c : Thread nD τ), .dma (inS 5)) 0
      ∗ semVal ((c : Thread nD τ), .dma (inS 6)) 0 ∗ semVal ((c : Thread nD τ), .dma (inS 7)) 0
      ∗ semVal (cell c (some (false, 0))) 0 ∗ semVal (cell c (some (false, 1))) 0 ∗ semVal (cell c (some (false, 2))) 0
      ∗ semVal (cell c (some (true, 0))) 0 ∗ semVal (cell c (some (true, 1))) 0 ∗ semVal (cell c (some (true, 2))) 0)
    iintro ⟨⟨H0, H1, H2, H3, H4, H5, H6, H7⟩, ⟨S0, V0⟩, ⟨S1, V1⟩, ⟨S2, V2⟩⟩
    iframe H0 H1 H2 H3 H4 H5 H6 H7 S0 S1 S2 V0 V1 V2

/-- The one counter that outlives the launch is the barrier's. -/
theorem unscoped_eq (c : Dev nD) : (unscopedSems0 c : sProp 𝕄) = semVal (cell c none) 0 := by
  unfold unscopedSems0; rw [bigSep_eq_bigSepL_of_eq [SemLoc.reg barS] (by decide) (by decide)]; rfl

/-- A device's seven cells one by one: the barrier, then the two of each link. -/
theorem bigSep_part (Φ : Part → sProp 𝕄) :
    bigSep Finset.univ Φ ⊣⊢ iprop(Φ none ∗ bigSep Finset.univ fun k : Fin 3 => iprop(Φ (some (false, k)) ∗ Φ (some (true, k)))) := by
  rw [bigSep_univ_eq_bigSepL [none, some (false, 0), some (true, 0), some (false, 1), some (true, 1), some (false, 2), some (true, 2)] (by decide) (by decide), bigSep_three]
  refine ⟨?_, ?_⟩
  · show iprop(Φ none ∗ Φ (some (false, 0)) ∗ Φ (some (true, 0)) ∗ Φ (some (false, 1)) ∗ Φ (some (true, 1)) ∗ Φ (some (false, 2)) ∗ Φ (some (true, 2))) ⊢ _
    iintro ⟨H0, H1, H2, H3, H4, H5, H6⟩
    iframe H0 H1 H2 H3 H4 H5 H6
  · show _ ⊢ iprop(Φ none ∗ Φ (some (false, 0)) ∗ Φ (some (true, 0)) ∗ Φ (some (false, 1)) ∗ Φ (some (true, 1)) ∗ Φ (some (false, 2)) ∗ Φ (some (true, 2)))
    iintro ⟨H0, ⟨H1, H2⟩, ⟨H3, H4⟩, H5, H6⟩
    iframe H0 H1 H2 H3 H4 H5 H6

/-! ## The launch element -/

abbrev cellAt (x : Dev nD × Part) : GSem nD τ sig := cell x.1 x.2
/-- Different names give different cells. -/
theorem cellAt_inj : Function.Injective cellAt := fun a b h => by
  obtain ⟨h1, h2⟩ := cell_inj h
  exact Prod.ext h1 h2
def allCells : Finset (GSem nD τ sig) := Finset.univ.map ⟨cellAt, cellAt_inj⟩

/-- The duties of a device's cells, link by link: its barrier's duty `k`, its send and receive counters' one duty. -/
abbrev tokenAt (x : Dev nD × Fin 3 × Fin 3) : GSem nD τ sig × ℕ × Fin 3 := match x.2.2 with
  | 0 => (cell x.1 none, 0, x.2.1)
  | 1 => (cell x.1 (some (false, x.2.1)), 0, 0)
  | 2 => (cell x.1 (some (true, x.2.1)), 0, 0)
/-- Different names give different tokens. -/
theorem tokenAt_inj : Function.Injective tokenAt := by
  rintro ⟨c, k, o⟩ ⟨c', k', o'⟩ h
  have hk : ∀ {p p' : Part} {d d' : Fin 3}, ((cell c p, 0, d) : GSem nD τ sig × ℕ × Fin 3) = (cell c' p', 0, d') → c = c' ∧ p = p' ∧ d = d' :=
    fun e => ⟨(cell_inj (congrArg (fun y => y.1) e)).1, (cell_inj (congrArg (fun y => y.1) e)).2, congrArg (fun y => y.2.2) e⟩
  fin_cases o <;> fin_cases o' <;> obtain ⟨rfl, h2, h3⟩ := hk h <;> simp_all
def allTokens : Finset (GSem nD τ sig × ℕ × Fin 3) := Finset.univ.map ⟨tokenAt, tokenAt_inj⟩

def u₀ : UU := (initOf (Pipeline.cells cfgs cellOf_inj) (Pipeline.launchToks cfgs cellOf_inj), (initOf allCells allTokens, 1))

/-- The tokens of the duties on device `c`'s own cells that belong to link `k`. -/
def minted (c : Dev nD) (k : Fin 3) : sProp 𝕄 :=
  iprop(dutyTok EX (cell c none) 0 k ∗ dutyTok EX (cell c (some (false, k))) 0 0 ∗ dutyTok EX (cell c (some (true, k))) 0 0)

/-- What the launch element deals device `c`. -/
def dealt (c : Dev nD) : sProp 𝕄 :=
  iprop((bigSep Finset.univ fun p : Part => roundState EX (sched m) (cell c p) 0) ∗ (bigSep Finset.univ fun p : Part => atPos EX (cell c p) 0 ∅ 0)
    ∗ (bigSep Finset.univ fun p : Part => reached EX (cell c p) 0) ∗ bigSep Finset.univ fun k : Fin 3 => minted c k)

/-- The first ghost state deals every device its cells and tokens. -/
theorem fund : BI.own (EX (initOf allCells allTokens)) ⊢ (|==> bigSep Finset.univ (dealt m) : sProp 𝕄) := by
  have hC (Φ : GSem nD τ sig → sProp 𝕄) : bigSep allCells Φ = bigSep Finset.univ fun c : Dev nD => bigSep Finset.univ fun p : Part => Φ (cell c p) := by
    unfold allCells; rw [bigSep_map, bigSep_univ_prod]; rfl
  have hT : bigSep allTokens (fun x => (dutyTok EX x.1 x.2.1 x.2.2 : sProp 𝕄)) = bigSep Finset.univ fun c : Dev nD => bigSep Finset.univ fun k : Fin 3 => minted c k := by
    unfold allTokens; rw [bigSep_map, bigSep_univ_prod]
    refine bigSep_congr fun c _ => ?_
    rw [bigSep_univ_prod]
    exact bigSep_congr fun k _ => by unfold minted; rw [bigSep_three]; rfl
  iintro HX
  imod (Rounds.fund EX (sched m) allCells allTokens) $$ HX with ⟨Hst, Hr, Hat, Htok⟩
  imodintro
  ihave Hst := (Entails.of_eq (hC fun g => roundState EX (sched m) g 0)) $$ Hst
  ihave Hat := (Entails.of_eq (hC fun g => atPos EX g 0 ∅ 0)) $$ Hat
  ihave Hr := (Entails.of_eq (hC fun g => reached EX g 0)) $$ Hr
  ihave Htok := (Entails.of_eq hT) $$ Htok
  unfold dealt; simp only [bigSep_sep']
  isplitl [Hst]; · iexact Hst
  isplitl [Hat]; · iexact Hat
  isplitl [Hr]; · iexact Hr
  iexact Htok

/-- The same, for the ghost state as the launch holds it. -/
theorem fund_emb : BI.own (((Emb.inl : Emb UX (UX × Counters)).trans (embR : Emb (UX × Counters) 𝕄)) (initOf allCells allTokens))
    ⊢ (|==> bigSep Finset.univ (dealt m) : sProp 𝕄) := fund m

/-- A device after its cells' invariants are made. -/
def opened (c : Dev nD) : sProp 𝕄 :=
  iprop((bigSep Finset.univ fun p : Part => iprop(∃ κ : ℕ, cellInv EX (sched m) κ (cell c p))) ∗ (bigSep Finset.univ fun p : Part => reached EX (cell c p) 0)
    ∗ (bigSep Finset.univ fun k : Fin 3 => minted c k) ∗ posOf c ∗ inSems c)

/-- A device turns its counters and its share of the ghost state into its cells' invariants. -/
theorem open_cells (c : Dev nD) : iprop(own0 c ∗ unscopedSems0 c ∗ dealt m c) ⊢ |={Set.univ}=> opened m c := by
  unfold dealt opened
  rw [unscoped_eq]
  iintro ⟨Hos, Hb, Hst, Hat, Hr, Htok⟩
  ihave Ho := (own0_eq (F := F) c).1 $$ Hos
  icases Ho with ⟨Hin, Hl⟩
  ihave Hv := (bigSep_part (F := F) (fun p => semVal (cell c p) 0)).2 $$ [Hb Hl]
  · isplitl [Hb]; · iexact Hb
    unfold links0; iexact Hl
  imod (show iprop((bigSep Finset.univ fun p : Part => semVal (cell c p) 0) ∗ bigSep Finset.univ fun p : Part => roundState EX (sched m) (cell c p) 0)
      ⊢ (|={Set.univ}=> bigSep Finset.univ fun p : Part => iprop(∃ κ : ℕ, cellInv EX (sched m) κ (cell c p)) : sProp 𝕄) from by
        rw [← bigSep_sep']
        exact (bigSep_mono fun p _ => (Rounds.body_intro EX (sched m) (cell c p)).trans inv_alloc).trans (bigSep_fupd _ _)) $$ [Hv Hst] with Hinv
  · isplitl [Hv] <;> iassumption
  imodintro
  isplitl [Hinv]; · iexact Hinv
  isplitl [Hr]; · iexact Hr
  isplitl [Htok]; · iexact Htok
  isplitl [Hat]
  · unfold posOf; iapply (bigSep_part (F := F) (fun p => atPos EX (cell c p) 0 ∅ 0)).1; iexact Hat
  iexact Hin

/-- The two ends of a link, exchanged. -/
def ends (k : Fin 3) : Dev nD ≃ Dev nD := ⟨peer k, peer k, peer_peer k, peer_peer k⟩

/-- The tokens dealt over the links: each device gets those of the duties it pays. -/
theorem deal_tokens : (bigSep Finset.univ fun c : Dev nD => bigSep Finset.univ fun k : Fin 3 => (minted c k : sProp 𝕄))
    ⊢ bigSep Finset.univ fun c : Dev nD => bigSep Finset.univ fun k : Fin 3 => duesOf c k := by
  rw [Idealize.SL.BI.bigSep_univ_comm (fun (c : Dev nD) (k : Fin 3) => (minted c k : sProp 𝕄)), Idealize.SL.BI.bigSep_univ_comm (fun (c : Dev nD) (k : Fin 3) => (duesOf c k : sProp 𝕄))]
  refine bigSep_mono fun k _ => ?_
  unfold minted duesOf
  rw [bigSep_sep', bigSep_sep', bigSep_sep', bigSep_sep', Idealize.SL.BI.bigSep_univ_equiv (ends k) (fun c : Dev nD => (dutyTok EX (cell c none) 0 k : sProp 𝕄)),
    Idealize.SL.BI.bigSep_univ_equiv (ends k) (fun c : Dev nD => (dutyTok EX (cell c (some (true, k))) 0 0 : sProp 𝕄))]
  exact Idealize.SL.BI.Entails.refl _

/-- What every device makes known is made known to all of them. -/
theorem share_out {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- What every device starts its exchange from, out of all that was opened. -/
theorem regroup : bigSep Finset.univ (opened m) ⊢ bigSep Finset.univ fun c : Dev nD => iprop(∃ K, ghost m K c) := by
  unfold opened
  rw [bigSep_sep', bigSep_sep', bigSep_sep', ← bigSep_univ_prod (fun x : Dev nD × Part => iprop(∃ κ : ℕ, cellInv EX (sched m) κ (cell x.1 x.2))),
    ← bigSep_univ_prod (fun x : Dev nD × Part => (reached EX (cell x.1 x.2) 0 : sProp 𝕄))]
  iintro ⟨HI, #HR, Htok, Hrest⟩
  ihave HK := (BI.bigSep_exists_pi Finset.univ (fun (x : Dev nD × Part) (κ : ℕ) => (cellInv EX (sched m) κ (cell x.1 x.2) : sProp 𝕄))) $$ HI
  icases HK with ⟨%K, #HI⟩
  ihave Htok := (deal_tokens (F := F)) $$ Htok
  have hone : ∀ c ∈ (Finset.univ : Finset (Dev nD)), iprop(records m K ∗ (bigSep Finset.univ fun k : Fin 3 => duesOf c k) ∗ posOf c ∗ inSems c)
      ⊢ (iprop(∃ K, ghost m K c) : sProp 𝕄) := fun c _ => by
    unfold ghost
    iintro ⟨HR, Hd, Hp, Hi⟩
    iexists K
    isplitl [HR]; · iexact HR
    isplitl [Hp]; · iexact Hp
    isplitl [Hd] <;> iassumption
  ihave H := (share_out hone) $$ [HI Htok Hrest]
  isplitr
  · unfold records; isplitl; · iexact HI
    iexact HR
  · ihave H := (show iprop((bigSep Finset.univ fun c : Dev nD => bigSep Finset.univ fun k : Fin 3 => duesOf c k)
        ∗ bigSep Finset.univ fun c : Dev nD => iprop(posOf c ∗ inSems c))
        ⊢ (bigSep Finset.univ fun c : Dev nD => iprop((bigSep Finset.univ fun k : Fin 3 => duesOf c k) ∗ posOf c ∗ inSems c) : sProp 𝕄) from by
          rw [bigSep_sep', bigSep_sep', bigSep_sep']) $$ [Htok Hrest]
    · isplitl [Htok]; · iexact Htok
      iexact Hrest
    iexact H
  iexact H

/-- All devices together open their cells and learn of all the others. -/
theorem glob : (bigSep Finset.univ fun c => iprop(own0 c ∗ unscopedSems0 c ∗ dealt m c) : sProp 𝕄) ⊢ |={Set.univ}=> bigSep Finset.univ fun c : Dev nD => iprop(∃ K, ghost m K c) :=
  ((bigSep_mono fun c _ => open_cells m c).trans (bigSep_fupd _ _)).trans (BI.fupd_mono (regroup m))

/-! ## The launch credit -/

/-- What device `d` owes a cell of device `c`, debt by debt. -/
theorem owe_at (c d : Dev nD) (p : Part) (l : List (Bool × Fin 3)) :
    owe d l (cell c p) () = (l.map fun x => if c = peer x.2 d ∧ p = (if x.1 then some (true, x.2) else none) then debtUnits x else 0).sum := by
  induction l with
  | nil => rfl
  | cons x l ih =>
    unfold owe
    rw [Pi.add_apply, Finsupp.add_apply, ih, List.map_cons, List.sum_cons, Nat.add_comm, tallyAt_apply]
    congr 1
    by_cases h : c = peer x.2 d ∧ p = (if x.1 then some (true, x.2) else none)
    · rw [if_pos h, if_pos ⟨by rw [h.1, h.2], rfl⟩]
    · rw [if_neg h, if_neg fun e => h (cell_inj e.1)]

/-- Over all devices, three units are owed to each barrier cell. -/
theorem owed_bar (c : Dev nD) : ∑ d : Dev nD, owe d debts (cell c none) () = 3 := by
  simp only [owe_at, debts, debtUnits, List.map_cons, List.map_nil, List.sum_cons, List.sum_nil]
  generalize N = n
  revert c
  simp
  decide

/-- And one message to each receive cell. -/
theorem owed_recv (c : Dev nD) (k : Fin 3) : ∑ d : Dev nD, owe d debts (cell c (some (true, k))) () = N := by
  simp only [owe_at, debts, debtUnits, List.map_cons, List.map_nil, List.sum_cons, List.sum_nil]
  generalize N = n
  have h : ∀ (c d : Dev nD) (k : Fin 3), c = peer k d ↔ d = peer k c := by decide
  fin_cases k <;> simp [h c]

/-- The credit a cell starts with is what all devices owe it. -/
theorem credit_eq (c : Dev nD) (p : Part) (n : ℕ) (h : ∑ d : Dev nD, owe d debts (cell c p) () = n) :
    tallyOn (cell c p) (launchCredit (Pipeline.owing fun d => owe d debts) 0 (cell c p)) = (tallyAt (cell c p) () n : CellTallies nD τ sig Unit) := by
  unfold tallyAt; refine congrArg _ (Finsupp.ext fun u => ?_); cases u
  rw [Pipeline.launchCredit_owing, Finsupp.single_eq_same, h]

/-- The three receive semaphores of a device are different. -/
theorem recv_inj : Function.Injective fun k : Fin 3 => csem (some (true, k)) := by decide

/-- The launch hands every device the credit of its own cells. -/
theorem credits (c : Dev nD) : (Pipeline.launchCred (fun d => owe d debts) c : sProp 𝕄)
    ⊢ iprop(cred (tallyAt (cell c none) () 3) ∗ bigSep Finset.univ fun k : Fin 3 => cred (tallyAt (cell c (some (true, k))) () N)) := by
  unfold Pipeline.launchCred
  rw [bigSep_univ_at _ (csem none), credit_eq c none 3 (owed_bar c)]
  refine sep_mono_right ((bigSep_subset (t := Finset.univ.map ⟨fun k : Fin 3 => csem (some (true, k)), recv_inj⟩) (by decide)).trans ?_)
  rw [bigSep_map]
  exact bigSep_mono fun k _ => Entails.of_eq (congrArg cred (credit_eq c (some (true, k)) N (owed_recv c k)))

/-! ## The launch theorem's conditions -/

/-- `gamma`, which no device touches. -/
def gammaAt (c : Dev nD) : sProp 𝕄 := ((c : Thread nD τ).loc main_arg2) ↦{fullShare} m ((c : Thread nD τ).loc main_arg2)

/-- What the launch leaves a device is what its start holds. -/
theorem start_intro (c : Dev nD) :
    iprop(Pipeline.unscopedRestP Pipeline.Prefetch.none cfg0.spec c (fun b => m ((c : Thread nD τ).loc b)) ∗ levAts L lv
        ∗ Pipeline.launchCred (fun d => owe d debts) c ∗ prngReg c (ρ c) ∗ ∃ K, ghost m K c)
      ⊢ |={Set.univ}=> iprop(start m c ∗ gammaAt m c) := by
  rw [Pipeline.unscopedRestP_none]
  iintro ⟨Hb, Hlev, Hcr, -, HG⟩
  ihave Hb := (Entails.of_eq (unscopedRest0_eq (Ix := Unit) (Name := ℕ) (U := UU) (Lvl := ℕ) c (fun b => m ((c : Thread nD τ).loc b)))) $$ Hb
  icases Hb with ⟨H0, H1, H2⟩
  ihave Hc := (credits (F := F) c) $$ Hcr
  imodintro
  unfold start argsAt gammaAt
  isplitr [H2]
  · isplitl [HG]; · iexact HG
    isplitl [Hc]; · iexact Hc
    isplitl [Hlev]; · iexact Hlev
    isplitl [H0] <;> iassumption
  iexact H2

/-- The start, with the credit, makes the state before the one grid point. -/
theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = before₀ m c from rfl, scopedRest0_eq]
  unfold before₀ scratch
  iintro ⟨Hs, -, Hr⟩
  isplitl [Hs]; · iexact Hs
  iexact Hr

/-- The state after the grid point gives back the counters and the arguments. -/
theorem phi1_exit (c : Dev nD) :
    (dats m 0 c).Φ (Fin.last cfg0.N) ⊢ iprop((unscopedSems0 c ∗ argsAt m c) ∗ own0 c ∗ Pipeline.scopedRest cfg0.spec c) := by
  rw [show (dats m 0 c).Φ (Fin.last cfg0.N) = after₀ m c from rfl, scopedRest0_eq, unscoped_eq]
  unfold after₀ closed scratch
  iintro ⟨⟨Hb, Hl, Hi⟩, Ha, Hs⟩
  isplitl [Hb Ha]
  · isplitl [Hb] <;> iassumption
  isplitl [Hl Hi]
  · iapply (own0_eq (F := F) c).2
    isplitl [Hi]; · iexact Hi
    unfold links0; iexact Hl
  iexact Hs

/-- The pipeline's own waits are below everything owed. -/
theorem waits (c : Dev nD) : (levAts L lv : sProp 𝕄) ⊢ Pipeline.cellsWaits cfgs (dats m) () 0 c :=
  Pipeline.cellsWaits_intro cfgs (dats m) () 0 c fun w s t => by
    have hr : rank (part (.dma ((cfg0.win w).sem s))) = 0 := by fin_cases w; fin_cases s <;> decide
    rcases t with ⟨_ | _, ht⟩
    · exact mayWait_owe c _ 0 hr debts (by decide)
    · exact mayWait_owe c _ 0 hr [] (fun _ h => absurd h List.not_mem_nil)

/-- The result window is held whole. -/
theorem share_full (c : Dev nD) (w : Fin cfg0.W) : (dats m 0 c).share w = fullShare := by unfold Dat.share; split <;> rfl

/-! ## The run -/

/-- What a run ends in: every device's result array at the computed contents, its arguments as they were, every counter at zero. -/
def Ends : PUnit × MemSt nD τ sig (Elt F) → Prop := fun r =>
  (∀ c : Dev nD, r.2.mem ((c : Thread nD τ).loc main_v1) = outAt m c
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2))
  ∧ r.2.sem = fun _ => 0

/-- What the last holdings of a device say of the final memory. -/
def Kept (c : Dev nD) (s : MemSt nD τ sig (Elt F)) : Prop :=
  (∀ sm : SemLoc sig, sm.isScoped .tc = false → s.sem ((c.tc : Thread nD τ), sm) = 0)
  ∧ s.mem ((c : Thread nD τ).loc main_arg0) = m ((c : Thread nD τ).loc main_arg0)
  ∧ s.mem ((c : Thread nD τ).loc main_arg1) = m ((c : Thread nD τ).loc main_arg1)
  ∧ s.mem ((c : Thread nD τ).loc main_arg2) = m ((c : Thread nD τ).loc main_arg2)

/-- What a device keeps can be read off the final memory. -/
theorem read_kept (c : Dev nD) (s' : Phys nD τ sig (Elt F)) :
    iprop((unscopedSems0 c ∗ argsAt m c) ∗ gammaAt m c ∗ SI s') ⊢ |={Set.univ}=> iprop(⌜Kept m c s'.mem⌝ ∗ SI s' : sProp 𝕄) := by
  unfold argsAt gammaAt
  iintro ⟨⟨Hu, H0, H1⟩, H2, HSI⟩
  icombine HSI H0 gives %h0
  icombine HSI H1 gives %h1
  icombine HSI H2 gives %h2
  imod (Pipeline.unscopedSems0_read (X := unscopedSems0 c) (c := c) fupd_intro s') $$ [Hu HSI] with ⟨%hs, HSI⟩
  · isplitl [Hu] <;> iassumption
  imodintro
  isplitr
  · ipureintro
    exact ⟨hs, funext fun i => h0 i (Finset.mem_univ i), funext fun i => h1 i (Finset.mem_univ i), funext fun i => h2 i (Finset.mem_univ i)⟩
  iexact HSI

/-- The result array at the end of the run. -/
theorem final_out (c : Dev nD) : (dats m 0 c).arrAt (0 : Fin 1) cfg0.N = outAt m c := by
  exact (dats m 0 c).arrAt_eq_of_after_last (0 : Fin 1) t0_0 (show win0_0.WholeAt t0_0 by decide) (outAt m c) (fun _ => rfl)

set_option maxRecDepth 8000 in
/-- From any memory with zero counters the four kernels run to their end, and every final state is as `Ends` says. -/
theorem run_main : θ_run defs (onTc (τ := τ) (main (F := F))) ⟨m, fun _ => 0, ρ⟩ (Ends m) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => by fin_cases w; exact Nat.succ_pos _) (harr := arr_whole0) (hstage := stage_whole0) (hshare := share_full m)
    (hdistinct := winFacts0.arr_inj)
    (O₀ := fun d => owe d debts) (howed₀ := fun _ => rfl) (howedN := fun _ => rfl)
    (L := L) (lv := lv) (hL := L_off) (hwaits := waits m)
    (G := dealt m) (G' := fun c => iprop(∃ K, ghost m K c)) (u₀ := u₀)
    (hu₀ := by
      unfold u₀
      iintro Hu
      ihave H := (ownU_pair _ _) $$ Hu
      icases H with ⟨HP, HX⟩
      ihave H' := (own_pair_emb (embR : Emb (UX × Counters) (MT nD τ sig Unit (Elt F) ℕ UU ℕ)) _ _) $$ HX
      icases H' with ⟨HX, -⟩
      imod (fund_emb m) $$ HX with HG
      imodintro
      isplitl [HP] <;> iassumption)
    (hglob := glob m)
    (hA := fun _ _ => rfl) (hpf := fun _ k => k.elim0)
    (X := start m) (Y := fun c => iprop(unscopedSems0 c ∗ argsAt m c)) (Z := gammaAt m)
    (hX := start_intro m ρ) (hin := phi0_intro m) (hout := phi1_exit m)
    (QY := Kept m) (hY := read_kept m)
    (hQ := fun s h hs => ⟨fun c => ⟨((h c).1 (0 : Fin 1)).trans (final_out m c), (h c).2.2.2⟩, sem_eq_zero hs fun c => (h c).2.2.1⟩)

end Cert.NormBwd

end
-- ==== Proof.Rows.lean ====
/-
# The mathematics of one row, and each chunk's partial sums

A row of `x` has a mean, deviations, a scale `1 / √(variance + ε)`; a row of `dy` beside it contributes
`dy · (deviation · scale)` to `dgamma` and `dy` to `dbeta`, lane by lane. Each chunk's payload is read here as the sum of
its 128 rows' contributions, added to the accumulator.
-/
module

public import proofs.«01_k».proof.Proof.Windows
public import Idealize.ShloMosaic.Lib.Pointwise

@[expose] public section

noncomputable section

namespace Cert.NormBwd

open Cert.KernelIdeal Cert.KernelIdeal.Gen
open Idealize.ShloMosaic

/-- The row length, and the number added to a variance, as the two programs print them. -/
abbrev width : EReal := Ideal.ofBits .f32 0x44800000#32
abbrev tiny : EReal := Ideal.ofBits .f32 0x3727C5AC#32

/-- The mean of a row, the deviation at a lane, the variance, the scale. -/
def mean (f : Fin 1024 → EReal) : EReal := Ideal.div (∑ k, f k) width
def dev (f : Fin 1024 → EReal) (l : Fin 1024) : EReal := f l - mean f
def var (f : Fin 1024 → EReal) : EReal := Ideal.div (∑ k, dev f k * dev f k) width
def scale (f : Fin 1024 → EReal) : EReal := Ideal.rsqrt (var f + tiny)

/-- What a row of `x` and of `dy` add to lane `l` of row `a` of the result. -/
def share (a : Fin 2) (f g : Fin 1024 → EReal) (l : Fin 1024) : EReal :=
  match a with
  | 0 => g l * (dev f l * scale f)
  | 1 => g l

/-- What a chunk adds to entry `(a, l)`. -/
def chunkSum (x d : Vec Ideal S128x1024 .f32) (a : Fin 2) (l : Fin 1024) : EReal :=
  ∑ i : Fin 128, share a (fun k => x (ix2 i k)) (fun k => d (ix2 i k)) l

/-- The first chunk writes its sums into the accumulator. -/
theorem first_chunk (x d : Vec Ideal S128x1024 .f32) (a : Fin 2) (l : Fin 1024) :
    k0_pay3 d (k0_pay2 x d) (ix2 a l) = chunkSum x d a l := by
  unfold chunkSum share dev scale var dev mean
  fin_cases a
  · pointwise [k0_pay3, k0_pay2]
  · pointwise [k0_pay3, k0_pay2]

/-- The second chunk adds its sums to it. -/
theorem second_chunk (x d : Vec Ideal S128x1024 .f32) (v : Vec Ideal S2x1024 .f32) (a : Fin 2) (l : Fin 1024) :
    k0_pay5 d (k0_pay4 x d) v (ix2 a l) = v (ix2 a l) + chunkSum x d a l := by
  unfold chunkSum share dev scale var dev mean
  fin_cases a
  · pointwise [k0_pay5, k0_pay4]
  · pointwise [k0_pay5, k0_pay4]

/-- So does the third. -/
theorem third_chunk (x d : Vec Ideal S128x1024 .f32) (v : Vec Ideal S2x1024 .f32) (a : Fin 2) (l : Fin 1024) :
    k0_pay8 d (k0_pay6 x) (k0_pay7 x) v (ix2 a l) = v (ix2 a l) + chunkSum x d a l := by
  unfold chunkSum share dev scale var dev mean
  fin_cases a
  · pointwise [k0_pay8, k0_pay7, k0_pay6]
  · pointwise [k0_pay8, k0_pay7, k0_pay6]

/-- So does the last. -/
theorem last_chunk (x d : Vec Ideal S128x1024 .f32) (v : Vec Ideal S2x1024 .f32) (a : Fin 2) (l : Fin 1024) :
    k0_pay12 d (k0_pay9 x) (k0_pay10 x) k0_pay11 v (ix2 a l) = v (ix2 a l) + chunkSum x d a l := by
  unfold chunkSum share dev scale var dev mean
  fin_cases a
  · pointwise [k0_pay12, k0_pay11, k0_pay10, k0_pay9]
  · pointwise [k0_pay12, k0_pay11, k0_pay10, k0_pay9]

end Cert.NormBwd

end
-- ==== Proof.Sums.lean ====
/-
# The two results are one sum

The reference's result at an entry is the sum of the contributions of all 2048 rows; the kernel's is the sum over the
four devices, their four chunks and each chunk's 128 rows. A row of the array belongs to exactly one device, chunk and
place, so the two sums are the same. Sums of extended reals may be reordered freely, infinities included, and a variance
plus a positive constant is positive, so nothing is asked of the inputs.
-/
module

public import proofs.«01_k».proof.Proof.Rows
public import proofs.«01_k».proof.Proof.Gen.ReferenceIdeal
public import Idealize.ShloMosaic.Lib.Layout

@[expose] public section

noncomputable section

namespace Cert.NormBwd

open Idealize.ShloMosaic Idealize.ShloMosaic.TcCoe

/-! ## The constants, and the scale -/

/-- The row width is 1024. -/
theorem width_eq : width = ((1024 : ℝ) : EReal) := by
  simp [width, Ideal.ofBits, Ideal.ieee, -EReal.coe_mul]
  norm_num

/-- The constant added to the variance is positive. -/
theorem tiny_pos : 0 < tiny := by
  have h : tiny = (((10995116 : ℝ) * 2 ^ (-40 : ℤ) : ℝ) : EReal) := by
    simp [tiny, Ideal.ofBits, Ideal.ieee, -EReal.coe_mul]
  rw [h]; exact EReal.coe_pos.mpr (by positivity)

/-- A variance is nonnegative, whatever the row holds. -/
theorem var_nonneg (f : Fin 1024 → EReal) : 0 ≤ var f := by
  have hs : 0 ≤ ∑ k, dev f k * dev f k := Finset.sum_nonneg fun k _ => by
    rcases le_total 0 (dev f k) with h | h
    · exact mul_nonneg h h
    · rw [← neg_mul_neg]; exact mul_nonneg (EReal.neg_nonneg.mpr h) (EReal.neg_nonneg.mpr h)
  unfold var Ideal.div
  rw [width_eq, if_neg (by norm_num)]
  exact mul_nonneg hs (by rw [← EReal.coe_inv]; exact EReal.coe_nonneg.mpr (by norm_num))

/-- One over the square root of a positive number is its reciprocal square root. -/
theorem one_div_sqrt {v : EReal} (h : 0 < v) : Ideal.div 1 (Ideal.sqrt v) = Ideal.rsqrt v := by
  induction v with
  | bot => exact absurd h (by simp)
  | top => simp [Ideal.div]
  | coe r =>
    have hr : 0 < r := EReal.coe_pos.mp h
    have hq : Real.sqrt r ≠ 0 := (Real.sqrt_pos.mpr hr).ne'
    rw [Ideal.sqrt_coe, Ideal.rsqrt_coe, if_neg hr.not_gt, if_neg hr.not_gt, if_neg hr.ne', Ideal.div,
      if_neg (by simpa using hq), one_mul, EReal.coe_inv]

/-- The reference's way to write a row's scale. -/
theorem scale_eq (f : Fin 1024 → EReal) : Ideal.div 1 (Ideal.sqrt (var f + tiny)) = scale f :=
  one_div_sqrt (lt_of_lt_of_le tiny_pos (le_add_of_nonneg_left (var_nonneg f)))

/-! ## The reference's result -/

section Reference

open Cert.ReferenceIdeal Cert.ReferenceIdeal.Gen

/-- The reference's row means, deviations, variances and result, as its operations compose them. -/
def refMean (X : FVec Ideal S2048x1024 .f32) : FVec Ideal S2048x1 .f32 :=
  Host.divf (broadcastInDim S2048x1 ![0] bcast_S2048_S2048x1_0 (Host.reduceAdd X (constant S_ .f32 0x00000000#32) reducesTo_S2048x1024_S2048_d1 h_S_))
    (broadcastInDim S2048x1 ![] bcast_S_S2048x1 (constant S_ .f32 0x44800000#32))
def refDev (X : FVec Ideal S2048x1024 .f32) : FVec Ideal S2048x1024 .f32 :=
  subf X (broadcastInDim S2048x1024 ![0, 1] bcast_S2048x1_S2048x1024_0_1 (refMean X))
def refCount : FVec Ideal S_ .f32 := subf (constant S_ .f32 0x44800000#32) (sitofp .f32 (constantI S_ 32 0#32))
def refVar (X : FVec Ideal S2048x1024 .f32) : FVec Ideal S2048x1 .f32 :=
  select (broadcastInDim S2048x1 ![] bcast_S_S2048x1 (cmpf .ogt refCount (constant S_ .f32 0x00000000#32)))
    (Host.divf (broadcastInDim S2048x1 ![0] bcast_S2048_S2048x1_0 (Host.reduceAdd (mulf (refDev X) (refDev X)) (constant S_ .f32 0x00000000#32) reducesTo_S2048x1024_S2048_d1 h_S_))
      (broadcastInDim S2048x1 ![] bcast_S_S2048x1 refCount))
    (broadcastInDim S2048x1 ![] bcast_S_S2048x1 (id (constant S_ .f32 0x7FC00000#32)))
def refScale (X : FVec Ideal S2048x1024 .f32) : FVec Ideal S2048x1 .f32 :=
  Host.divf (broadcastInDim S2048x1 ![] bcast_S_S2048x1 (constant S_ .f32 0x3F800000#32))
    (Host.sqrt (addf (refVar X) (broadcastInDim S2048x1 ![] bcast_S_S2048x1 (constant S_ .f32 0x3727C5AC#32))))
def refOut (X D : FVec Ideal S2048x1024 .f32) : FVec Ideal S2x1024 .f32 :=
  concatenate S2x1024 0
    [⟨S1x1024, broadcastInDim S1x1024 ![1] bcast_S1024_S1x1024_1 (Host.reduceAdd
        (mulf D (mulf (refDev X) (broadcastInDim S2048x1024 ![0, 1] bcast_S2048x1_S2048x1024_0_1 (refScale X))))
        (constant S_ .f32 0x00000000#32) reducesTo_S2048x1024_S1024_d0 h_S_)⟩,
     ⟨S1x1024, broadcastInDim S1x1024 ![1] bcast_S1024_S1x1024_1 (Host.reduceAdd D (constant S_ .f32 0x00000000#32) reducesTo_S2048x1024_S1024_d0 h_S_)⟩]
    concatenates_S1x1024_S1x1024_S2x1024_d0

/-- Row `n` of an array. -/
abbrev rowAt (X : FVec Ideal S2048x1024 .f32) (n : Fin 2048) : Fin 1024 → EReal := fun k => X (ix2 n k)

/-- Row `n`'s mean. -/
theorem refMean_at (X : FVec Ideal S2048x1024 .f32) (n : Fin 2048) : refMean X (ix2 n 0) = mean (rowAt X n) := by
  unfold mean
  pointwise [refMean]

/-- Row `n`'s deviations. -/
theorem refDev_at (X : FVec Ideal S2048x1024 .f32) (n : Fin 2048) (l : Fin 1024) : refDev X (ix2 n l) = dev (rowAt X n) l := by
  unfold dev
  rw [← refMean_at]
  pointwise [refDev]

/-- The count the variance is divided by is the width. -/
theorem refCount_at (j : S_.Idx) : refCount j = width := by
  show width - (((0#32 : BitVec 32).toInt : ℝ) : EReal) = width
  simp

/-- Row `n`'s variance: the count is positive, so the quotient is chosen. -/
theorem refVar_at (X : FVec Ideal S2048x1024 .f32) (n : Fin 2048) : refVar X (ix2 n 0) = var (rowAt X n) := by
  unfold var
  simp only [← refDev_at]
  pointwise [refVar]
  rw [refCount_at, if_pos (by rw [width_eq]; exact EReal.coe_pos.mpr (by norm_num))]

/-- Row `n`'s scale. -/
theorem refScale_at (X : FVec Ideal S2048x1024 .f32) (n : Fin 2048) : refScale X (ix2 n 0) = scale (rowAt X n) := by
  rw [← scale_eq, ← refVar_at]
  pointwise [refScale]

/-- Entry `(a, l)` of the reference's result. -/
theorem refOut_at (X D : FVec Ideal S2048x1024 .f32) (a : Fin 2) (l : Fin 1024) :
    refOut X D (ix2 a l) = ∑ n : Fin 2048, share a (rowAt X n) (rowAt D n) l := by
  unfold share
  simp only [← refDev_at, ← refScale_at]
  fin_cases a
  · pointwise [refOut]
  · pointwise [refOut]

end Reference

/-! ## The kernel's result -/

section Kernel

open Cert.KernelIdeal Cert.KernelIdeal.Gen

variable (m : (ℓ : Loc nD τ sig) → Buf (Elt Ideal) ℓ)

/-- What lands in a slot, reshaped back, is what was sent. -/
theorem asSlot_cast (v : Vec Ideal S2x1024 .f32) : shapeCast S2x1024 (asSlot v) shapeCasts_S1x2x1024_S2x1024 = v := by
  funext i
  unfold shapeCast asSlot
  exact congrArg v ((Shape.reshapeEquiv _).symm_apply_apply i)

/-- A device's accumulator after its four chunks. -/
theorem acc_at (c : Dev nD) (a : Fin 2) (l : Fin 1024) :
    acc3 m c (ix2 a l) = ∑ r : Fin 4, chunkSum (xC m c r) (dC m c r) a l := by
  rw [Fin.sum_univ_four]
  unfold acc3 acc2 acc1 acc0
  rw [last_chunk, third_chunk, second_chunk, first_chunk]

/-- The own accumulator and the three received, added entry by entry. -/
theorem combine_at (u v w x : Vec Ideal S2x1024 .f32) (a : Fin 2) (l : Fin 1024) :
    k0_pay1 (k0_pay13 u (asSlot v)) (asSlot w) (asSlot x) (ix2 a l) = (u (ix2 a l) + v (ix2 a l)) + (w (ix2 a l) + x (ix2 a l)) := by
  have hv := congrFun (asSlot_cast v) (ix2 a l)
  have hw := congrFun (asSlot_cast w) (ix2 a l)
  have hx := congrFun (asSlot_cast x) (ix2 a l)
  rw [← hv, ← hw, ← hx]
  rfl

/-- A device's result is the sum of the four accumulators, whichever peers it names first. -/
theorem out_at (c : Dev nD) (a : Fin 2) (l : Fin 1024) : outAt m c (ix2 a l) = ∑ d : Fin 4, acc3 m d (ix2 a l) := by
  have h : outAt m c (ix2 a l) = (acc3 m c (ix2 a l) + acc3 m (peer 0 c) (ix2 a l)) + (acc3 m (peer 1 c) (ix2 a l) + acc3 m (peer 2 c) (ix2 a l)) :=
    combine_at ..
  rw [h, Fin.sum_univ_four]
  generalize hf : (fun d : Dev nD => acc3 m d (ix2 a l)) = f
  have hd : ∀ d, acc3 m d (ix2 a l) = f d := fun d => congrFun hf d
  simp only [hd]
  clear h hf hd
  fin_cases c
  · show (f 0 + f 1) + (f 2 + f 3) = f 0 + f 1 + f 2 + f 3
    ac_rfl
  · show (f 1 + f 0) + (f 3 + f 2) = f 0 + f 1 + f 2 + f 3
    ac_rfl
  · show (f 2 + f 3) + (f 0 + f 1) = f 0 + f 1 + f 2 + f 3
    ac_rfl
  · show (f 3 + f 2) + (f 1 + f 0) = f 0 + f 1 + f 2 + f 3
    ac_rfl

/-- The row of the whole array that device, chunk and place name, and back. -/
def rowEquiv : Fin 4 × Fin 4 × Fin 128 ≃ Fin 2048 where
  toFun p := ⟨1024 * (p.1.val % 2) + 512 * (p.1.val / 2) + 128 * p.2.1.val + p.2.2.val, by omega⟩
  invFun n := (⟨2 * (n.val % 1024 / 512) + n.val / 1024, by omega⟩, ⟨n.val % 512 / 128, by omega⟩, ⟨n.val % 128, by omega⟩)
  left_inv p := by
    obtain ⟨d, r, i⟩ := p
    refine Prod.ext (Fin.ext ?_) (Prod.ext (Fin.ext ?_) (Fin.ext ?_)) <;> simp only <;> omega
  right_inv n := Fin.ext (by simp only; omega)

/-- A device's block at the rows of a chunk, as rows of the whole array the block is cut from. -/
theorem chunk_at (X : (⟨2, ![2048, 1024]⟩ : Shape).Idx → EReal) (c : Dev nD) (r : Fin 4) (i : Fin 128) (k : Fin 1024) :
    (Layout.blockN ⟨2, ![1024, 1024]⟩ ⟨2, ![2048, 1024]⟩ (Layout.meshBlock [2, 2] ![[1], []] c) X : S1024x1024.Idx → EReal)
        ((rowsOf c r).emb (ix2 i k))
      = X (ix2 (rowEquiv (c, r, i)) k) := by
  have hm : ∀ c : Fin 4, Layout.meshLin [2, 2] c.val [1] = c.val % 2 := by decide
  rw [Layout.blockN_apply]
  refine congrArg X (funext fun b => Fin.ext ?_)
  rw [Layout.TilesN.idx_val]
  fin_cases b
  · show Layout.meshLin [2, 2] c.val [1] * 1024 + ((rowsOf c r).emb (ix2 i k) 0).val = 1024 * (c.val % 2) + 512 * (c.val / 2) + 128 * r.val + i.val
    rw [hm, Rect.emb_apply]
    show _ + (k0_off1 c (BitVec.ofNat 32 (128 * r.val)) 0 + 1 * i.val) = _
    rw [k0_off1_eq]
    show c.val % 2 * 1024 + (512 * (c.val / 2) + 128 * r.val + 1 * i.val) = _
    omega
  · show 0 * 1024 + ((rowsOf c r).emb (ix2 i k) 1).val = k.val
    rw [Rect.emb_apply]
    show _ + (k0_off1 c (BitVec.ofNat 32 (128 * r.val)) 1 + 1 * k.val) = _
    rw [k0_off1_eq]
    show 0 * 1024 + (0 + 1 * k.val) = _
    omega

/-- Each device's result is the reference's, when the devices hold the blocks of `X` and `D`. -/
theorem out_eq (X D : FVec Ideal Cert.ReferenceIdeal.S2048x1024 .f32)
    (hX : ∀ d : Dev nD, m ((d : Thread nD τ).loc main_arg0) = Layout.blockN ⟨2, ![1024, 1024]⟩ ⟨2, ![2048, 1024]⟩ (Layout.meshBlock [2, 2] ![[1], []] d) X)
    (hD : ∀ d : Dev nD, m ((d : Thread nD τ).loc main_arg1) = Layout.blockN ⟨2, ![1024, 1024]⟩ ⟨2, ![2048, 1024]⟩ (Layout.meshBlock [2, 2] ![[1], []] d) D)
    (c : Dev nD) : outAt m c = refOut X D := by
  funext j
  obtain ⟨a, l, rfl⟩ : ∃ (a : Fin 2) (l : Fin 1024), j = ix2 a l := ⟨j 0, j 1, (ix2_eta j).symm⟩
  have hx : ∀ (d : Dev nD) (r : Fin 4) (i : Fin 128), (fun k => xC m d r (ix2 i k)) = rowAt X (rowEquiv (d, r, i)) := fun d r i =>
    funext fun k => (congrFun (hX d) _).trans (chunk_at X d r i k)
  have hd : ∀ (d : Dev nD) (r : Fin 4) (i : Fin 128), (fun k => dC m d r (ix2 i k)) = rowAt D (rowEquiv (d, r, i)) := fun d r i =>
    funext fun k => (congrFun (hD d) _).trans (chunk_at D d r i k)
  rw [out_at, refOut_at, ← rowEquiv.sum_comp, Fintype.sum_prod_type]
  refine Finset.sum_congr rfl fun d _ => ?_
  rw [acc_at, Fintype.sum_prod_type]
  refine Finset.sum_congr rfl fun r _ => ?_
  unfold chunkSum
  refine Finset.sum_congr rfl fun i _ => ?_
  rw [hx, hd]

end Kernel

end Cert.NormBwd

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Run
public import proofs.«01_k».proof.Proof.Sums
public import Idealize.ShloMosaic.Lib.Quiescent
public import Idealize.ShloMosaic.Adequacy
public import Idealize.ShloMosaic.Init

@[expose] public section

noncomputable section

namespace Cert.Proof

open Idealize.ShloMosaic Idealize.SL.Sem Cert.NormBwd

/-- The arguments and counters after the kernel's run, over any float values. -/
theorem frame_of_run {F : FTy → Type} [FloatOps F] (m : (ℓ : Loc Cert.KernelIdeal.nD Cert.KernelIdeal.τ Cert.KernelIdeal.sig) → Buf (Elt F) ℓ)
    (ρ : Dev Cert.KernelIdeal.nD → PrngReg) :
    θ_run (Cert.KernelIdeal.defs (F := F)) (onTc (τ := Cert.KernelIdeal.τ) (Cert.KernelIdeal.main (F := F))) ⟨m, fun _ => 0, ρ⟩ (fun r =>
      (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0) :=
  (θ_run _ _ _).mono (fun _ (h : Ends m _) => ⟨fun c => (h.1 c).2, h.2⟩) (run_main m ρ)

/-- The two programs of the kernel have one text: their body tables agree label by label. -/
theorem bodies_eq {F : FTy → Type} [FloatOps F] : Cert.Kernel.defs₀ (F := F) = Cert.KernelIdeal.defs₀ (F := F) := by
  unfold Cert.Kernel.defs₀ Cert.KernelIdeal.defs₀
  refine congrArg Defs.onTc (funext fun l => funext fun a => ?_)
  match l, a with
  | ⟨0, _⟩, (t, s) => rfl

/-- Hence the tables with the launches added agree. -/
theorem tables_eq {F : FTy → Type} [FloatOps F] : Cert.Kernel.defs (F := F) = Cert.KernelIdeal.defs (F := F) := by
  unfold Cert.Kernel.defs Cert.KernelIdeal.defs
  rw [bodies_eq]
  rfl

/-- `Kernel` runs to its end from any memory, leaves its arguments and every counter at zero. Its text is
    `KernelIdeal`'s, so its run is the same one, over bit patterns. -/
theorem frame_p : Cert.quiescent_Kernel (hKernel := Cert.Kernel.Gen.facts) := fun m ρ _ => by
  have h := frame_of_run (F := Bits) m ρ
  rw [← tables_eq] at h
  exact h

/-- The same of `KernelIdeal`, over the extended reals. -/
theorem frame_pi : Cert.quiescent_KernelIdeal (hKernelIdeal := Cert.KernelIdeal.Gen.facts) := fun m ρ _ =>
  frame_of_run (F := Ideal) m ρ

/-- The same of the reference, which declares no counter. -/
theorem frame_ri : Cert.quiescent_ReferenceIdeal (hReferenceIdeal := Cert.ReferenceIdeal.Gen.facts) := fun m ρ _ =>
  (θ_run _ _ _).mono (fun r h => ⟨fun c => (h c).2, sem_eq_zero_of_no_sems (by decide) r.2⟩)
    (Cert.ReferenceIdeal.Value.run m ρ)

/-- Every device's result is the reference's. -/
theorem algebraic : Cert.algebraic_KernelIdeal_ReferenceIdeal (hKernelIdeal := Cert.KernelIdeal.Gen.facts)
    (hReferenceIdeal := Cert.ReferenceIdeal.Gen.facts) := fun m ρ m' ρ' _ hlay =>
  ⟨refOut (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)),
    (θ_run _ _ _).mono (fun _ h c => ⟨(h.1 c).1.trans (out_eq m _ _ (fun d => (hlay d).1) (fun d => (hlay d).2.1) c), (h.1 c).2⟩)
      (run_main (F := Ideal) m ρ),
    (θ_run _ _ _).mono (fun _ h => ⟨(h 0).1, (h 0).2⟩) (Cert.ReferenceIdeal.Value.run m' ρ')⟩

/-- The five claims together. -/
theorem claim : Cert.Claim := ⟨Cert.Kernel.Gen.facts, Cert.KernelIdeal.Gen.facts, Cert.ReferenceIdeal.Gen.facts,
  frame_p, frame_pi, frame_ri, trivial, algebraic⟩

end Cert.Proof

end
